-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_n_angles" .f32 0x35A3D70A#32 ((1 / 819200 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x8192x3 : Shape := ⟨3, ![32, 8192, 3]⟩
abbrev S32 : Shape := ⟨1, ![32]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S1x1x100x3 : Shape := ⟨4, ![1, 1, 100, 3]⟩
abbrev S1x1x100 : Shape := ⟨3, ![1, 1, 100]⟩
abbrev S1x1x100x1 : Shape := ⟨4, ![1, 1, 100, 1]⟩
abbrev S100x3 : Shape := ⟨2, ![100, 3]⟩
abbrev S3x100 : Shape := ⟨2, ![3, 100]⟩
abbrev S32x3x8192 : Shape := ⟨3, ![32, 3, 8192]⟩
abbrev S32x3x128x64 : Shape := ⟨4, ![32, 3, 128, 64]⟩
abbrev S32x3x64x128 : Shape := ⟨4, ![32, 3, 64, 128]⟩
abbrev S1x3x64x128 : Shape := ⟨4, ![1, 3, 64, 128]⟩
abbrev S10x192x128 : Shape := ⟨3, ![10, 192, 128]⟩
abbrev S128x128 : Shape := ⟨2, ![128, 128]⟩
abbrev S1x1 : Shape := ⟨2, ![1, 1]⟩
abbrev S1x1x64x128 : Shape := ⟨4, ![1, 1, 64, 128]⟩
abbrev S64x128 : Shape := ⟨2, ![64, 128]⟩
abbrev S1x128x128 : Shape := ⟨3, ![1, 128, 128]⟩
abbrev S1x64x128 : Shape := ⟨3, ![1, 64, 128]⟩
abbrev S1x1x1 : Shape := ⟨3, ![1, 1, 1]⟩

abbrev nBuf : Space → Nat
  | .hbm => 310
  | .vmem => 5
  | .smem => 4
  | _ => 0

abbrev hbmTy0_0 (i : Nat) : BufTy := match i % 128 with
  | 0 => ⟨S32x8192x3, .f32⟩
  | 1 => ⟨S32x8192x3, .f32⟩
  | 2 => ⟨S32, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1x1x1, .f32⟩
  | 18 => ⟨S1x1x1x1, .f32⟩
  | 19 => ⟨S1, .i32⟩
  | 20 => ⟨S_, .i32⟩
  | 21 => ⟨S1, .i32⟩
  | 22 => ⟨S_, .i32⟩
  | 23 => ⟨S1x1x100x3, .i64⟩
  | 24 => ⟨S1x1x100x3, .i64⟩
  | 25 => ⟨S1x1x100x3, .i64⟩
  | 26 => ⟨S1x1x100x3, .i64⟩
  | 27 => ⟨S_, .i64⟩
  | 28 => ⟨S1x1x100x3, .i64⟩
  | 29 => ⟨S1x1x100x3, .i64⟩
  | 30 => ⟨S_, .i64⟩
  | 31 => ⟨S1x1x100x3, .i64⟩
  | 32 => ⟨S1x1x100x3, .i64⟩
  | 33 => ⟨S_, .i64⟩
  | 34 => ⟨S1x1x100x3, .i64⟩
  | 35 => ⟨S1x1x100x3, .i64⟩
  | 36 => ⟨S_, .i64⟩
  | 37 => ⟨S1x1x100x3, .i64⟩
  | 38 => ⟨S1x1x100x3, .i64⟩
  | 39 => ⟨S1x1x100x3, .i64⟩
  | 40 => ⟨S1x1x100x3, .i64⟩
  | 41 => ⟨S1x1x100x3, .i64⟩
  | 42 => ⟨S_, .i64⟩
  | 43 => ⟨S1x1x100x3, .i64⟩
  | 44 => ⟨S1x1x100x3, .i64⟩
  | 45 => ⟨S1x1x100x3, .i32⟩
  | 46 => ⟨S1x1x100x3, .i32⟩
  | 47 => ⟨S_, .i32⟩
  | 48 => ⟨S_, .i32⟩
  | 49 => ⟨S_, .i32⟩
  | 50 => ⟨S1x1x100x3, .i32⟩
  | 51 => ⟨S1x1x100x3, .i32⟩
  | 52 => ⟨S1x1x100x3, .i32⟩
  | 53 => ⟨S1x1x100x3, .i32⟩
  | 54 => ⟨S1x1x100x3, .i32⟩
  | 55 => ⟨S_, .i32⟩
  | 56 => ⟨S1x1x100x3, .i32⟩
  | 57 => ⟨S1x1x100x3, .i32⟩
  | 58 => ⟨S_, .i32⟩
  | 59 => ⟨S1x1x100x3, .i32⟩
  | 60 => ⟨S1x1x100x3, .i32⟩
  | 61 => ⟨S1x1x100x3, .i32⟩
  | 62 => ⟨S1x1x100x3, .i32⟩
  | 63 => ⟨S1x1x100x3, .i32⟩
  | 64 => ⟨S_, .i32⟩
  | 65 => ⟨S1x1x100x3, .i32⟩
  | 66 => ⟨S1x1x100x3, .i32⟩
  | 67 => ⟨S_, .i32⟩
  | 68 => ⟨S1x1x100x3, .i32⟩
  | 69 => ⟨S1x1x100x3, .i32⟩
  | 70 => ⟨S1x1x100x3, .i32⟩
  | 71 => ⟨S1x1x100x3, .i32⟩
  | 72 => ⟨S1x1x100x3, .i32⟩
  | 73 => ⟨S_, .i32⟩
  | 74 => ⟨S1x1x100x3, .i32⟩
  | 75 => ⟨S1x1x100x3, .i32⟩
  | 76 => ⟨S_, .i32⟩
  | 77 => ⟨S1x1x100x3, .i32⟩
  | 78 => ⟨S1x1x100x3, .i32⟩
  | 79 => ⟨S1x1x100x3, .i32⟩
  | 80 => ⟨S1x1x100x3, .i32⟩
  | 81 => ⟨S1x1x100x3, .i32⟩
  | 82 => ⟨S_, .i32⟩
  | 83 => ⟨S1x1x100x3, .i32⟩
  | 84 => ⟨S1x1x100x3, .i32⟩
  | 85 => ⟨S_, .i32⟩
  | 86 => ⟨S1x1x100x3, .i32⟩
  | 87 => ⟨S1x1x100x3, .i32⟩
  | 88 => ⟨S1x1x100x3, .i32⟩
  | 89 => ⟨S1x1x100x3, .i32⟩
  | 90 => ⟨S1x1x100x3, .i32⟩
  | 91 => ⟨S1x1x100x3, .i32⟩
  | 92 => ⟨S1x1x100x3, .i32⟩
  | 93 => ⟨S1x1x100x3, .i32⟩
  | 94 => ⟨S_, .i32⟩
  | 95 => ⟨S1x1x100x3, .i32⟩
  | 96 => ⟨S1x1x100x3, .i32⟩
  | 97 => ⟨S1x1x100x3, .i32⟩
  | 98 => ⟨S_, .i32⟩
  | 99 => ⟨S1x1x100x3, .i32⟩
  | 100 => ⟨S1x1x100x3, .i32⟩
  | 101 => ⟨S_, .i32⟩
  | 102 => ⟨S1x1x100x3, .i32⟩
  | 103 => ⟨S1x1x100x3, .i32⟩
  | 104 => ⟨S1x1x100x3, .i32⟩
  | 105 => ⟨S1x1x100x3, .i32⟩
  | 106 => ⟨S1x1x100x3, .i32⟩
  | 107 => ⟨S_, .i32⟩
  | 108 => ⟨S1x1x100x3, .i32⟩
  | 109 => ⟨S1x1x100x3, .i32⟩
  | 110 => ⟨S_, .i32⟩
  | 111 => ⟨S1x1x100x3, .i32⟩
  | 112 => ⟨S1x1x100x3, .i32⟩
  | 113 => ⟨S1x1x100x3, .i32⟩
  | 114 => ⟨S1x1x100x3, .i32⟩
  | 115 => ⟨S1x1x100x3, .i32⟩
  | 116 => ⟨S_, .i32⟩
  | 117 => ⟨S1x1x100x3, .i32⟩
  | 118 => ⟨S1x1x100x3, .i32⟩
  | 119 => ⟨S_, .i32⟩
  | 120 => ⟨S1x1x100x3, .i32⟩
  | 121 => ⟨S1x1x100x3, .i32⟩
  | 122 => ⟨S1x1x100x3, .i32⟩
  | 123 => ⟨S1x1x100x3, .i32⟩
  | 124 => ⟨S1x1x100x3, .i32⟩
  | 125 => ⟨S_, .i32⟩
  | 126 => ⟨S1x1x100x3, .i32⟩
  | 127 => ⟨S1x1x100x3, .i32⟩
  | _ => ⟨S32x8192x3, .f32⟩

abbrev hbmTy0_1 (i : Nat) : BufTy := match i % 128 with
  | 0 => ⟨S_, .i32⟩
  | 1 => ⟨S1x1x100x3, .i32⟩
  | 2 => ⟨S1x1x100x3, .i32⟩
  | 3 => ⟨S1x1x100x3, .i32⟩
  | 4 => ⟨S1x1x100x3, .i32⟩
  | 5 => ⟨S1x1x100x3, .i32⟩
  | 6 => ⟨S1x1x100x3, .i32⟩
  | 7 => ⟨S1x1x100x3, .i32⟩
  | 8 => ⟨S1x1x100x3, .i32⟩
  | 9 => ⟨S_, .i32⟩
  | 10 => ⟨S1x1x100x3, .i32⟩
  | 11 => ⟨S1x1x100x3, .i32⟩
  | 12 => ⟨S1x1x100x3, .i32⟩
  | 13 => ⟨S_, .i32⟩
  | 14 => ⟨S1x1x100x3, .i32⟩
  | 15 => ⟨S1x1x100x3, .i32⟩
  | 16 => ⟨S_, .i32⟩
  | 17 => ⟨S1x1x100x3, .i32⟩
  | 18 => ⟨S1x1x100x3, .i32⟩
  | 19 => ⟨S1x1x100x3, .i32⟩
  | 20 => ⟨S1x1x100x3, .i32⟩
  | 21 => ⟨S1x1x100x3, .i32⟩
  | 22 => ⟨S_, .i32⟩
  | 23 => ⟨S1x1x100x3, .i32⟩
  | 24 => ⟨S1x1x100x3, .i32⟩
  | 25 => ⟨S_, .i32⟩
  | 26 => ⟨S1x1x100x3, .i32⟩
  | 27 => ⟨S1x1x100x3, .i32⟩
  | 28 => ⟨S1x1x100x3, .i32⟩
  | 29 => ⟨S1x1x100x3, .i32⟩
  | 30 => ⟨S1x1x100x3, .i32⟩
  | 31 => ⟨S_, .i32⟩
  | 32 => ⟨S1x1x100x3, .i32⟩
  | 33 => ⟨S1x1x100x3, .i32⟩
  | 34 => ⟨S_, .i32⟩
  | 35 => ⟨S1x1x100x3, .i32⟩
  | 36 => ⟨S1x1x100x3, .i32⟩
  | 37 => ⟨S1x1x100x3, .i32⟩
  | 38 => ⟨S1x1x100x3, .i32⟩
  | 39 => ⟨S1x1x100x3, .i32⟩
  | 40 => ⟨S_, .i32⟩
  | 41 => ⟨S1x1x100x3, .i32⟩
  | 42 => ⟨S1x1x100x3, .i32⟩
  | 43 => ⟨S_, .i32⟩
  | 44 => ⟨S1x1x100x3, .i32⟩
  | 45 => ⟨S1x1x100x3, .i32⟩
  | 46 => ⟨S1x1x100x3, .i32⟩
  | 47 => ⟨S1x1x100x3, .i32⟩
  | 48 => ⟨S1x1x100x3, .i32⟩
  | 49 => ⟨S1x1x100x3, .i32⟩
  | 50 => ⟨S1x1x100x3, .i32⟩
  | 51 => ⟨S1x1x100x3, .i32⟩
  | 52 => ⟨S_, .i32⟩
  | 53 => ⟨S1x1x100x3, .i32⟩
  | 54 => ⟨S1x1x100x3, .i32⟩
  | 55 => ⟨S1x1x100x3, .i32⟩
  | 56 => ⟨S_, .i32⟩
  | 57 => ⟨S1x1x100x3, .i32⟩
  | 58 => ⟨S1x1x100x3, .i32⟩
  | 59 => ⟨S_, .i32⟩
  | 60 => ⟨S1x1x100x3, .i32⟩
  | 61 => ⟨S1x1x100x3, .i32⟩
  | 62 => ⟨S1x1x100x3, .i32⟩
  | 63 => ⟨S1x1x100x3, .i32⟩
  | 64 => ⟨S1x1x100x3, .i32⟩
  | 65 => ⟨S_, .i32⟩
  | 66 => ⟨S1x1x100x3, .i32⟩
  | 67 => ⟨S1x1x100x3, .i32⟩
  | 68 => ⟨S_, .i32⟩
  | 69 => ⟨S1x1x100x3, .i32⟩
  | 70 => ⟨S1x1x100x3, .i32⟩
  | 71 => ⟨S1x1x100x3, .i32⟩
  | 72 => ⟨S1x1x100x3, .i32⟩
  | 73 => ⟨S1x1x100x3, .i32⟩
  | 74 => ⟨S_, .i32⟩
  | 75 => ⟨S1x1x100x3, .i32⟩
  | 76 => ⟨S1x1x100x3, .i32⟩
  | 77 => ⟨S_, .i32⟩
  | 78 => ⟨S1x1x100x3, .i32⟩
  | 79 => ⟨S1x1x100x3, .i32⟩
  | 80 => ⟨S1x1x100x3, .i32⟩
  | 81 => ⟨S1x1x100x3, .i32⟩
  | 82 => ⟨S1x1x100x3, .i32⟩
  | 83 => ⟨S_, .i32⟩
  | 84 => ⟨S1x1x100x3, .i32⟩
  | 85 => ⟨S1x1x100x3, .i32⟩
  | 86 => ⟨S_, .i32⟩
  | 87 => ⟨S1x1x100x3, .i32⟩
  | 88 => ⟨S1x1x100x3, .i32⟩
  | 89 => ⟨S1x1x100x3, .i32⟩
  | 90 => ⟨S1x1x100x3, .i32⟩
  | 91 => ⟨S1x1x100x3, .i32⟩
  | 92 => ⟨S1x1x100x3, .i32⟩
  | 93 => ⟨S1x1x100x3, .i32⟩
  | 94 => ⟨S1x1x100x3, .i32⟩
  | 95 => ⟨S_, .i32⟩
  | 96 => ⟨S1x1x100x3, .i32⟩
  | 97 => ⟨S1x1x100x3, .i32⟩
  | 98 => ⟨S1x1x100x3, .i32⟩
  | 99 => ⟨S_, .i32⟩
  | 100 => ⟨S1x1x100x3, .i32⟩
  | 101 => ⟨S1x1x100x3, .i32⟩
  | 102 => ⟨S_, .i32⟩
  | 103 => ⟨S1x1x100x3, .i32⟩
  | 104 => ⟨S1x1x100x3, .i32⟩
  | 105 => ⟨S1x1x100x3, .i32⟩
  | 106 => ⟨S1x1x100x3, .i32⟩
  | 107 => ⟨S1x1x100x3, .i32⟩
  | 108 => ⟨S_, .i32⟩
  | 109 => ⟨S1x1x100x3, .i32⟩
  | 110 => ⟨S1x1x100x3, .i32⟩
  | 111 => ⟨S_, .i32⟩
  | 112 => ⟨S1x1x100x3, .i32⟩
  | 113 => ⟨S1x1x100x3, .i32⟩
  | 114 => ⟨S1x1x100x3, .i32⟩
  | 115 => ⟨S1x1x100x3, .i32⟩
  | 116 => ⟨S1x1x100x3, .i32⟩
  | 117 => ⟨S_, .i32⟩
  | 118 => ⟨S1x1x100x3, .i32⟩
  | 119 => ⟨S1x1x100x3, .i32⟩
  | 120 => ⟨S_, .i32⟩
  | 121 => ⟨S1x1x100x3, .i32⟩
  | 122 => ⟨S1x1x100x3, .i32⟩
  | 123 => ⟨S1x1x100x3, .i32⟩
  | 124 => ⟨S1x1x100x3, .i32⟩
  | 125 => ⟨S1x1x100x3, .i32⟩
  | 126 => ⟨S_, .i32⟩
  | 127 => ⟨S1x1x100x3, .i32⟩
  | _ => ⟨S32x8192x3, .f32⟩

abbrev hbmTy0_2 (i : Nat) : BufTy := match i % 128 with
  | 0 => ⟨S1x1x100x3, .i32⟩
  | 1 => ⟨S_, .i32⟩
  | 2 => ⟨S1x1x100x3, .i32⟩
  | 3 => ⟨S1x1x100x3, .i32⟩
  | 4 => ⟨S1x1x100x3, .i32⟩
  | 5 => ⟨S1x1x100x3, .i32⟩
  | 6 => ⟨S1x1x100x3, .i32⟩
  | 7 => ⟨S1x1x100x3, .i32⟩
  | 8 => ⟨S1x1x100x3, .i32⟩
  | 9 => ⟨S1x1x100x3, .i32⟩
  | 10 => ⟨S_, .i32⟩
  | 11 => ⟨S1x1x100x3, .i32⟩
  | 12 => ⟨S1x1x100x3, .i32⟩
  | 13 => ⟨S1x1x100x3, .i32⟩
  | 14 => ⟨S_, .i32⟩
  | 15 => ⟨S1x1x100x3, .i32⟩
  | 16 => ⟨S1x1x100x3, .i32⟩
  | 17 => ⟨S_, .i32⟩
  | 18 => ⟨S1x1x100x3, .i32⟩
  | 19 => ⟨S1x1x100x3, .i32⟩
  | 20 => ⟨S1x1x100x3, .f32⟩
  | 21 => ⟨S_, .f32⟩
  | 22 => ⟨S1x1x100x3, .f32⟩
  | 23 => ⟨S1x1x100x3, .f32⟩
  | 24 => ⟨S1x1x1x1, .f32⟩
  | 25 => ⟨S1x1x100x3, .f32⟩
  | 26 => ⟨S1x1x100x3, .f32⟩
  | 27 => ⟨S1x1x100x3, .f32⟩
  | 28 => ⟨S1x1x100x3, .f32⟩
  | 29 => ⟨S1x1x100x3, .f32⟩
  | 30 => ⟨S1x1x100x3, .f32⟩
  | 31 => ⟨S_, .f32⟩
  | 32 => ⟨S1x1x100x3, .f32⟩
  | 33 => ⟨S1x1x100x3, .f32⟩
  | 34 => ⟨S_, .f32⟩
  | 35 => ⟨S1x1x100x3, .f32⟩
  | 36 => ⟨S1x1x100x3, .f32⟩
  | 37 => ⟨S1x1x100x3, .f32⟩
  | 38 => ⟨S_, .f32⟩
  | 39 => ⟨S1x1x100, .f32⟩
  | 40 => ⟨S1x1x100x1, .f32⟩
  | 41 => ⟨S1x1x100x1, .f32⟩
  | 42 => ⟨S1x1x100x3, .f32⟩
  | 43 => ⟨S1x1x100x3, .f32⟩
  | 44 => ⟨S100x3, .f32⟩
  | 45 => ⟨S3x100, .f32⟩
  | 46 => ⟨S32x3x8192, .f32⟩
  | 47 => ⟨S32x3x128x64, .f32⟩
  | 48 => ⟨S32x3x64x128, .f32⟩
  | 49 => ⟨S32x3x8192, .f32⟩
  | 50 => ⟨S32x3x128x64, .f32⟩
  | 51 => ⟨S32x3x64x128, .f32⟩
  | 52 => ⟨S1, .f32⟩
  | 53 => ⟨S_, .f32⟩
  | _ => ⟨S32x8192x3, .f32⟩

abbrev hbmTy (i : Nat) : BufTy := match i / 128 with
  | 0 => hbmTy0_0 i
  | 1 => hbmTy0_1 i
  | 2 => hbmTy0_2 i
  | _ => ⟨S32x8192x3, .f32⟩

abbrev bufTy : (tb : Table) → Fin (tcTables nBuf tb) → BufTy
  | .hbm, ⟨i, _⟩ => hbmTy i
  | .local _ .vmem, ⟨0, _⟩ => ⟨S1x3x64x128, .f32⟩
  | .local _ .vmem, ⟨1, _⟩ => ⟨S1x3x64x128, .f32⟩
  | .local _ .vmem, ⟨2, _⟩ => ⟨S1x3x64x128, .f32⟩
  | .local _ .vmem, ⟨3, _⟩ => ⟨S1x3x64x128, .f32⟩
  | .local _ .vmem, ⟨4, _⟩ => ⟨S10x192x128, .f32⟩
  | .local _ .smem, ⟨0, _⟩ => ⟨S3x100, .f32⟩
  | .local _ .smem, ⟨1, _⟩ => ⟨S32, .f32⟩
  | .local _ .smem, ⟨2, _⟩ => ⟨S1, .f32⟩
  | .local _ .smem, ⟨3, _⟩ => ⟨S2, .f32⟩
  | _, _ => ⟨S32x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c : Ref sig .tc := ⟨.hbm, 27, rfl⟩
abbrev main_call0_v12 : Ref sig .tc := ⟨.hbm, 28, rfl⟩
abbrev main_call0_v13 : Ref sig .tc := ⟨.hbm, 29, rfl⟩
abbrev main_call0_c_0 : Ref sig .tc := ⟨.hbm, 30, rfl⟩
abbrev main_call0_v14 : Ref sig .tc := ⟨.hbm, 31, rfl⟩
abbrev main_call0_v15 : Ref sig .tc := ⟨.hbm, 32, rfl⟩
abbrev main_call0_c_1 : Ref sig .tc := ⟨.hbm, 33, rfl⟩
abbrev main_call0_v16 : Ref sig .tc := ⟨.hbm, 34, rfl⟩
abbrev main_call0_v17 : Ref sig .tc := ⟨.hbm, 35, rfl⟩
abbrev main_call0_c_2 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_c_3 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_call0_v0 : Ref sig .tc := ⟨.hbm, 47, rfl⟩
abbrev main_call0_call0_c : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_c_0 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_c_1 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_call0_v12 : Ref sig .tc := ⟨.hbm, 62, rfl⟩
abbrev main_call0_call0_v13 : Ref sig .tc := ⟨.hbm, 63, rfl⟩
abbrev main_call0_call0_c_2 : Ref sig .tc := ⟨.hbm, 64, rfl⟩
abbrev main_call0_call0_v14 : Ref sig .tc := ⟨.hbm, 65, rfl⟩
abbrev main_call0_call0_v15 : Ref sig .tc := ⟨.hbm, 66, rfl⟩
abbrev main_call0_call0_c_3 : Ref sig .tc := ⟨.hbm, 67, rfl⟩
abbrev main_call0_call0_v16 : Ref sig .tc := ⟨.hbm, 68, rfl⟩
abbrev main_call0_call0_v17 : Ref sig .tc := ⟨.hbm, 69, rfl⟩
abbrev main_call0_call0_v18 : Ref sig .tc := ⟨.hbm, 70, rfl⟩
abbrev main_call0_call0_v19 : Ref sig .tc := ⟨.hbm, 71, rfl⟩
abbrev main_call0_call0_v20 : Ref sig .tc := ⟨.hbm, 72, rfl⟩
abbrev main_call0_call0_c_4 : Ref sig .tc := ⟨.hbm, 73, rfl⟩
abbrev main_call0_call0_v21 : Ref sig .tc := ⟨.hbm, 74, rfl⟩
abbrev main_call0_call0_v22 : Ref sig .tc := ⟨.hbm, 75, rfl⟩
abbrev main_call0_call0_c_5 : Ref sig .tc := ⟨.hbm, 76, rfl⟩
abbrev main_call0_call0_v23 : Ref sig .tc := ⟨.hbm, 77, rfl⟩
abbrev main_call0_call0_v24 : Ref sig .tc := ⟨.hbm, 78, rfl⟩
abbrev main_call0_call0_v25 : Ref sig .tc := ⟨.hbm, 79, rfl⟩
abbrev main_call0_call0_v26 : Ref sig .tc := ⟨.hbm, 80, rfl⟩
abbrev main_call0_call0_v27 : Ref sig .tc := ⟨.hbm, 81, rfl⟩
abbrev main_call0_call0_c_6 : Ref sig .tc := ⟨.hbm, 82, rfl⟩
abbrev main_call0_call0_v28 : Ref sig .tc := ⟨.hbm, 83, rfl⟩
abbrev main_call0_call0_v29 : Ref sig .tc := ⟨.hbm, 84, rfl⟩
abbrev main_call0_call0_c_7 : Ref sig .tc := ⟨.hbm, 85, rfl⟩
abbrev main_call0_call0_v30 : Ref sig .tc := ⟨.hbm, 86, rfl⟩
abbrev main_call0_call0_v31 : Ref sig .tc := ⟨.hbm, 87, rfl⟩
abbrev main_call0_call0_v32 : Ref sig .tc := ⟨.hbm, 88, rfl⟩
abbrev main_call0_call0_v33 : Ref sig .tc := ⟨.hbm, 89, rfl⟩
abbrev main_call0_call0_v34 : Ref sig .tc := ⟨.hbm, 90, rfl⟩
abbrev main_call0_call0_v35 : Ref sig .tc := ⟨.hbm, 91, rfl⟩
abbrev main_call0_call0_v36 : Ref sig .tc := ⟨.hbm, 92, rfl⟩
abbrev main_call0_call0_v37 : Ref sig .tc := ⟨.hbm, 93, rfl⟩
abbrev main_call0_call0_c_8 : Ref sig .tc := ⟨.hbm, 94, rfl⟩
abbrev main_call0_call0_v38 : Ref sig .tc := ⟨.hbm, 95, rfl⟩
abbrev main_call0_call0_v39 : Ref sig .tc := ⟨.hbm, 96, rfl⟩
abbrev main_call0_call0_v40 : Ref sig .tc := ⟨.hbm, 97, rfl⟩
abbrev main_call0_call0_c_9 : Ref sig .tc := ⟨.hbm, 98, rfl⟩
abbrev main_call0_call0_v41 : Ref sig .tc := ⟨.hbm, 99, rfl⟩
abbrev main_call0_call0_v42 : Ref sig .tc := ⟨.hbm, 100, rfl⟩
abbrev main_call0_call0_c_10 : Ref sig .tc := ⟨.hbm, 101, rfl⟩
abbrev main_call0_call0_v43 : Ref sig .tc := ⟨.hbm, 102, rfl⟩
abbrev main_call0_call0_v44 : Ref sig .tc := ⟨.hbm, 103, rfl⟩
abbrev main_call0_call0_v45 : Ref sig .tc := ⟨.hbm, 104, rfl⟩
abbrev main_call0_call0_v46 : Ref sig .tc := ⟨.hbm, 105, rfl⟩
abbrev main_call0_call0_v47 : Ref sig .tc := ⟨.hbm, 106, rfl⟩
abbrev main_call0_call0_c_11 : Ref sig .tc := ⟨.hbm, 107, rfl⟩
abbrev main_call0_call0_v48 : Ref sig .tc := ⟨.hbm, 108, rfl⟩
abbrev main_call0_call0_v49 : Ref sig .tc := ⟨.hbm, 109, rfl⟩
abbrev main_call0_call0_c_12 : Ref sig .tc := ⟨.hbm, 110, rfl⟩
abbrev main_call0_call0_v50 : Ref sig .tc := ⟨.hbm, 111, rfl⟩
abbrev main_call0_call0_v51 : Ref sig .tc := ⟨.hbm, 112, rfl⟩
abbrev main_call0_call0_v52 : Ref sig .tc := ⟨.hbm, 113, rfl⟩
abbrev main_call0_call0_v53 : Ref sig .tc := ⟨.hbm, 114, rfl⟩
abbrev main_call0_call0_v54 : Ref sig .tc := ⟨.hbm, 115, rfl⟩
abbrev main_call0_call0_c_13 : Ref sig .tc := ⟨.hbm, 116, rfl⟩
abbrev main_call0_call0_v55 : Ref sig .tc := ⟨.hbm, 117, rfl⟩
abbrev main_call0_call0_v56 : Ref sig .tc := ⟨.hbm, 118, rfl⟩
abbrev main_call0_call0_c_14 : Ref sig .tc := ⟨.hbm, 119, rfl⟩
abbrev main_call0_call0_v57 : Ref sig .tc := ⟨.hbm, 120, rfl⟩
abbrev main_call0_call0_v58 : Ref sig .tc := ⟨.hbm, 121, rfl⟩
abbrev main_call0_call0_v59 : Ref sig .tc := ⟨.hbm, 122, rfl⟩
abbrev main_call0_call0_v60 : Ref sig .tc := ⟨.hbm, 123, rfl⟩
abbrev main_call0_call0_v61 : Ref sig .tc := ⟨.hbm, 124, rfl⟩
abbrev main_call0_call0_c_15 : Ref sig .tc := ⟨.hbm, 125, rfl⟩
abbrev main_call0_call0_v62 : Ref sig .tc := ⟨.hbm, 126, rfl⟩
abbrev main_call0_call0_v63 : Ref sig .tc := ⟨.hbm, 127, rfl⟩
abbrev main_call0_call0_c_16 : Ref sig .tc := ⟨.hbm, 128, rfl⟩
abbrev main_call0_call0_v64 : Ref sig .tc := ⟨.hbm, 129, rfl⟩
abbrev main_call0_call0_v65 : Ref sig .tc := ⟨.hbm, 130, rfl⟩
abbrev main_call0_call0_v66 : Ref sig .tc := ⟨.hbm, 131, rfl⟩
abbrev main_call0_call0_v67 : Ref sig .tc := ⟨.hbm, 132, rfl⟩
abbrev main_call0_call0_v68 : Ref sig .tc := ⟨.hbm, 133, rfl⟩
abbrev main_call0_call0_v69 : Ref sig .tc := ⟨.hbm, 134, rfl⟩
abbrev main_call0_call0_v70 : Ref sig .tc := ⟨.hbm, 135, rfl⟩
abbrev main_call0_call0_v71 : Ref sig .tc := ⟨.hbm, 136, rfl⟩
abbrev main_call0_call0_c_17 : Ref sig .tc := ⟨.hbm, 137, rfl⟩
abbrev main_call0_call0_v72 : Ref sig .tc := ⟨.hbm, 138, rfl⟩
abbrev main_call0_call0_v73 : Ref sig .tc := ⟨.hbm, 139, rfl⟩
abbrev main_call0_call0_v74 : Ref sig .tc := ⟨.hbm, 140, rfl⟩
abbrev main_call0_call0_c_18 : Ref sig .tc := ⟨.hbm, 141, rfl⟩
abbrev main_call0_call0_v75 : Ref sig .tc := ⟨.hbm, 142, rfl⟩
abbrev main_call0_call0_v76 : Ref sig .tc := ⟨.hbm, 143, rfl⟩
abbrev main_call0_call0_c_19 : Ref sig .tc := ⟨.hbm, 144, rfl⟩
abbrev main_call0_call0_v77 : Ref sig .tc := ⟨.hbm, 145, rfl⟩
abbrev main_call0_call0_v78 : Ref sig .tc := ⟨.hbm, 146, rfl⟩
abbrev main_call0_call0_v79 : Ref sig .tc := ⟨.hbm, 147, rfl⟩
abbrev main_call0_call0_v80 : Ref sig .tc := ⟨.hbm, 148, rfl⟩
abbrev main_call0_call0_v81 : Ref sig .tc := ⟨.hbm, 149, rfl⟩
abbrev main_call0_call0_c_20 : Ref sig .tc := ⟨.hbm, 150, rfl⟩
abbrev main_call0_call0_v82 : Ref sig .tc := ⟨.hbm, 151, rfl⟩
abbrev main_call0_call0_v83 : Ref sig .tc := ⟨.hbm, 152, rfl⟩
abbrev main_call0_call0_c_21 : Ref sig .tc := ⟨.hbm, 153, rfl⟩
abbrev main_call0_call0_v84 : Ref sig .tc := ⟨.hbm, 154, rfl⟩
abbrev main_call0_call0_v85 : Ref sig .tc := ⟨.hbm, 155, rfl⟩
abbrev main_call0_call0_v86 : Ref sig .tc := ⟨.hbm, 156, rfl⟩
abbrev main_call0_call0_v87 : Ref sig .tc := ⟨.hbm, 157, rfl⟩
abbrev main_call0_call0_v88 : Ref sig .tc := ⟨.hbm, 158, rfl⟩
abbrev main_call0_call0_c_22 : Ref sig .tc := ⟨.hbm, 159, rfl⟩
abbrev main_call0_call0_v89 : Ref sig .tc := ⟨.hbm, 160, rfl⟩
abbrev main_call0_call0_v90 : Ref sig .tc := ⟨.hbm, 161, rfl⟩
abbrev main_call0_call0_c_23 : Ref sig .tc := ⟨.hbm, 162, rfl⟩
abbrev main_call0_call0_v91 : Ref sig .tc := ⟨.hbm, 163, rfl⟩
abbrev main_call0_call0_v92 : Ref sig .tc := ⟨.hbm, 164, rfl⟩
abbrev main_call0_call0_v93 : Ref sig .tc := ⟨.hbm, 165, rfl⟩
abbrev main_call0_call0_v94 : Ref sig .tc := ⟨.hbm, 166, rfl⟩
abbrev main_call0_call0_v95 : Ref sig .tc := ⟨.hbm, 167, rfl⟩
abbrev main_call0_call0_c_24 : Ref sig .tc := ⟨.hbm, 168, rfl⟩
abbrev main_call0_call0_v96 : Ref sig .tc := ⟨.hbm, 169, rfl⟩
abbrev main_call0_call0_v97 : Ref sig .tc := ⟨.hbm, 170, rfl⟩
abbrev main_call0_call0_c_25 : Ref sig .tc := ⟨.hbm, 171, rfl⟩
abbrev main_call0_call0_v98 : Ref sig .tc := ⟨.hbm, 172, rfl⟩
abbrev main_call0_call0_v99 : Ref sig .tc := ⟨.hbm, 173, rfl⟩
abbrev main_call0_call0_v100 : Ref sig .tc := ⟨.hbm, 174, rfl⟩
abbrev main_call0_call0_v101 : Ref sig .tc := ⟨.hbm, 175, rfl⟩
abbrev main_call0_call0_v102 : Ref sig .tc := ⟨.hbm, 176, rfl⟩
abbrev main_call0_call0_v103 : Ref sig .tc := ⟨.hbm, 177, rfl⟩
abbrev main_call0_call0_v104 : Ref sig .tc := ⟨.hbm, 178, rfl⟩
abbrev main_call0_call0_v105 : Ref sig .tc := ⟨.hbm, 179, rfl⟩
abbrev main_call0_call0_c_26 : Ref sig .tc := ⟨.hbm, 180, rfl⟩
abbrev main_call0_call0_v106 : Ref sig .tc := ⟨.hbm, 181, rfl⟩
abbrev main_call0_call0_v107 : Ref sig .tc := ⟨.hbm, 182, rfl⟩
abbrev main_call0_call0_v108 : Ref sig .tc := ⟨.hbm, 183, rfl⟩
abbrev main_call0_call0_c_27 : Ref sig .tc := ⟨.hbm, 184, rfl⟩
abbrev main_call0_call0_v109 : Ref sig .tc := ⟨.hbm, 185, rfl⟩
abbrev main_call0_call0_v110 : Ref sig .tc := ⟨.hbm, 186, rfl⟩
abbrev main_call0_call0_c_28 : Ref sig .tc := ⟨.hbm, 187, rfl⟩
abbrev main_call0_call0_v111 : Ref sig .tc := ⟨.hbm, 188, rfl⟩
abbrev main_call0_call0_v112 : Ref sig .tc := ⟨.hbm, 189, rfl⟩
abbrev main_call0_call0_v113 : Ref sig .tc := ⟨.hbm, 190, rfl⟩
abbrev main_call0_call0_v114 : Ref sig .tc := ⟨.hbm, 191, rfl⟩
abbrev main_call0_call0_v115 : Ref sig .tc := ⟨.hbm, 192, rfl⟩
abbrev main_call0_call0_c_29 : Ref sig .tc := ⟨.hbm, 193, rfl⟩
abbrev main_call0_call0_v116 : Ref sig .tc := ⟨.hbm, 194, rfl⟩
abbrev main_call0_call0_v117 : Ref sig .tc := ⟨.hbm, 195, rfl⟩
abbrev main_call0_call0_c_30 : Ref sig .tc := ⟨.hbm, 196, rfl⟩
abbrev main_call0_call0_v118 : Ref sig .tc := ⟨.hbm, 197, rfl⟩
abbrev main_call0_call0_v119 : Ref sig .tc := ⟨.hbm, 198, rfl⟩
abbrev main_call0_call0_v120 : Ref sig .tc := ⟨.hbm, 199, rfl⟩
abbrev main_call0_call0_v121 : Ref sig .tc := ⟨.hbm, 200, rfl⟩
abbrev main_call0_call0_v122 : Ref sig .tc := ⟨.hbm, 201, rfl⟩
abbrev main_call0_call0_c_31 : Ref sig .tc := ⟨.hbm, 202, rfl⟩
abbrev main_call0_call0_v123 : Ref sig .tc := ⟨.hbm, 203, rfl⟩
abbrev main_call0_call0_v124 : Ref sig .tc := ⟨.hbm, 204, rfl⟩
abbrev main_call0_call0_c_32 : Ref sig .tc := ⟨.hbm, 205, rfl⟩
abbrev main_call0_call0_v125 : Ref sig .tc := ⟨.hbm, 206, rfl⟩
abbrev main_call0_call0_v126 : Ref sig .tc := ⟨.hbm, 207, rfl⟩
abbrev main_call0_call0_v127 : Ref sig .tc := ⟨.hbm, 208, rfl⟩
abbrev main_call0_call0_v128 : Ref sig .tc := ⟨.hbm, 209, rfl⟩
abbrev main_call0_call0_v129 : Ref sig .tc := ⟨.hbm, 210, rfl⟩
abbrev main_call0_call0_c_33 : Ref sig .tc := ⟨.hbm, 211, rfl⟩
abbrev main_call0_call0_v130 : Ref sig .tc := ⟨.hbm, 212, rfl⟩
abbrev main_call0_call0_v131 : Ref sig .tc := ⟨.hbm, 213, rfl⟩
abbrev main_call0_call0_c_34 : Ref sig .tc := ⟨.hbm, 214, rfl⟩
abbrev main_call0_call0_v132 : Ref sig .tc := ⟨.hbm, 215, rfl⟩
abbrev main_call0_call0_v133 : Ref sig .tc := ⟨.hbm, 216, rfl⟩
abbrev main_call0_call0_v134 : Ref sig .tc := ⟨.hbm, 217, rfl⟩
abbrev main_call0_call0_v135 : Ref sig .tc := ⟨.hbm, 218, rfl⟩
abbrev main_call0_call0_v136 : Ref sig .tc := ⟨.hbm, 219, rfl⟩
abbrev main_call0_call0_v137 : Ref sig .tc := ⟨.hbm, 220, rfl⟩
abbrev main_call0_call0_v138 : Ref sig .tc := ⟨.hbm, 221, rfl⟩
abbrev main_call0_call0_v139 : Ref sig .tc := ⟨.hbm, 222, rfl⟩
abbrev main_call0_call0_c_35 : Ref sig .tc := ⟨.hbm, 223, rfl⟩
abbrev main_call0_call0_v140 : Ref sig .tc := ⟨.hbm, 224, rfl⟩
abbrev main_call0_call0_v141 : Ref sig .tc := ⟨.hbm, 225, rfl⟩
abbrev main_call0_call0_v142 : Ref sig .tc := ⟨.hbm, 226, rfl⟩
abbrev main_call0_call0_c_36 : Ref sig .tc := ⟨.hbm, 227, rfl⟩
abbrev main_call0_call0_v143 : Ref sig .tc := ⟨.hbm, 228, rfl⟩
abbrev main_call0_call0_v144 : Ref sig .tc := ⟨.hbm, 229, rfl⟩
abbrev main_call0_call0_c_37 : Ref sig .tc := ⟨.hbm, 230, rfl⟩
abbrev main_call0_call0_v145 : Ref sig .tc := ⟨.hbm, 231, rfl⟩
abbrev main_call0_call0_v146 : Ref sig .tc := ⟨.hbm, 232, rfl⟩
abbrev main_call0_call0_v147 : Ref sig .tc := ⟨.hbm, 233, rfl⟩
abbrev main_call0_call0_v148 : Ref sig .tc := ⟨.hbm, 234, rfl⟩
abbrev main_call0_call0_v149 : Ref sig .tc := ⟨.hbm, 235, rfl⟩
abbrev main_call0_call0_c_38 : Ref sig .tc := ⟨.hbm, 236, rfl⟩
abbrev main_call0_call0_v150 : Ref sig .tc := ⟨.hbm, 237, rfl⟩
abbrev main_call0_call0_v151 : Ref sig .tc := ⟨.hbm, 238, rfl⟩
abbrev main_call0_call0_c_39 : Ref sig .tc := ⟨.hbm, 239, rfl⟩
abbrev main_call0_call0_v152 : Ref sig .tc := ⟨.hbm, 240, rfl⟩
abbrev main_call0_call0_v153 : Ref sig .tc := ⟨.hbm, 241, rfl⟩
abbrev main_call0_call0_v154 : Ref sig .tc := ⟨.hbm, 242, rfl⟩
abbrev main_call0_call0_v155 : Ref sig .tc := ⟨.hbm, 243, rfl⟩
abbrev main_call0_call0_v156 : Ref sig .tc := ⟨.hbm, 244, rfl⟩
abbrev main_call0_call0_c_40 : Ref sig .tc := ⟨.hbm, 245, rfl⟩
abbrev main_call0_call0_v157 : Ref sig .tc := ⟨.hbm, 246, rfl⟩
abbrev main_call0_call0_v158 : Ref sig .tc := ⟨.hbm, 247, rfl⟩
abbrev main_call0_call0_c_41 : Ref sig .tc := ⟨.hbm, 248, rfl⟩
abbrev main_call0_call0_v159 : Ref sig .tc := ⟨.hbm, 249, rfl⟩
abbrev main_call0_call0_v160 : Ref sig .tc := ⟨.hbm, 250, rfl⟩
abbrev main_call0_call0_v161 : Ref sig .tc := ⟨.hbm, 251, rfl⟩
abbrev main_call0_call0_v162 : Ref sig .tc := ⟨.hbm, 252, rfl⟩
abbrev main_call0_call0_v163 : Ref sig .tc := ⟨.hbm, 253, rfl⟩
abbrev main_call0_call0_c_42 : Ref sig .tc := ⟨.hbm, 254, rfl⟩
abbrev main_call0_call0_v164 : Ref sig .tc := ⟨.hbm, 255, rfl⟩
abbrev main_call0_call0_v165 : Ref sig .tc := ⟨.hbm, 256, rfl⟩
abbrev main_call0_call0_c_43 : Ref sig .tc := ⟨.hbm, 257, rfl⟩
abbrev main_call0_call0_v166 : Ref sig .tc := ⟨.hbm, 258, rfl⟩
abbrev main_call0_call0_v167 : Ref sig .tc := ⟨.hbm, 259, rfl⟩
abbrev main_call0_call0_v168 : Ref sig .tc := ⟨.hbm, 260, rfl⟩
abbrev main_call0_call0_v169 : Ref sig .tc := ⟨.hbm, 261, rfl⟩
abbrev main_call0_call0_v170 : Ref sig .tc := ⟨.hbm, 262, rfl⟩
abbrev main_call0_v27_0 : Ref sig .tc := ⟨.hbm, 263, rfl⟩
abbrev main_call0_call0_v172 : Ref sig .tc := ⟨.hbm, 264, rfl⟩
abbrev main_call0_call0_v173 : Ref sig .tc := ⟨.hbm, 265, rfl⟩
abbrev main_call0_call0_c_44 : Ref sig .tc := ⟨.hbm, 266, rfl⟩
abbrev main_call0_call0_v174 : Ref sig .tc := ⟨.hbm, 267, rfl⟩
abbrev main_call0_v27_1 : Ref sig .tc := ⟨.hbm, 268, rfl⟩
abbrev main_call0_v28 : Ref sig .tc := ⟨.hbm, 269, rfl⟩
abbrev main_call0_c_4 : Ref sig .tc := ⟨.hbm, 270, rfl⟩
abbrev main_call0_v29 : Ref sig .tc := ⟨.hbm, 271, rfl⟩
abbrev main_call0_v30 : Ref sig .tc := ⟨.hbm, 272, rfl⟩
abbrev main_call0_c_5 : Ref sig .tc := ⟨.hbm, 273, rfl⟩
abbrev main_call0_v31 : Ref sig .tc := ⟨.hbm, 274, rfl⟩
abbrev main_call0_v32 : Ref sig .tc := ⟨.hbm, 275, rfl⟩
abbrev main_call0_v33 : Ref sig .tc := ⟨.hbm, 276, rfl⟩
abbrev main_call0_cst : Ref sig .tc := ⟨.hbm, 277, rfl⟩
abbrev main_call0_v34 : Ref sig .tc := ⟨.hbm, 278, rfl⟩
abbrev main_call0_v35 : Ref sig .tc := ⟨.hbm, 279, rfl⟩
abbrev main_call0_v36 : Ref sig .tc := ⟨.hbm, 280, rfl⟩
abbrev main_call0_v37 : Ref sig .tc := ⟨.hbm, 281, rfl⟩
abbrev main_call0_v38 : Ref sig .tc := ⟨.hbm, 282, rfl⟩
abbrev main_call0_v39 : Ref sig .tc := ⟨.hbm, 283, rfl⟩
abbrev main_call0_v40 : Ref sig .tc := ⟨.hbm, 284, rfl⟩
abbrev main_call0_v41 : Ref sig .tc := ⟨.hbm, 285, rfl⟩
abbrev main_v7 : Ref sig .tc := ⟨.hbm, 286, rfl⟩
abbrev main_cst_3 : Ref sig .tc := ⟨.hbm, 287, rfl⟩
abbrev main_v8 : Ref sig .tc := ⟨.hbm, 288, rfl⟩
abbrev main_v9 : Ref sig .tc := ⟨.hbm, 289, rfl⟩
abbrev main_cst_4 : Ref sig .tc := ⟨.hbm, 290, rfl⟩
abbrev main_v10 : Ref sig .tc := ⟨.hbm, 291, rfl⟩
abbrev main_v11 : Ref sig .tc := ⟨.hbm, 292, rfl⟩
abbrev main_call1_v0 : Ref sig .tc := ⟨.hbm, 293, rfl⟩
abbrev main_call1_cst : Ref sig .tc := ⟨.hbm, 294, rfl⟩
abbrev main_call1_v1 : Ref sig .tc := ⟨.hbm, 295, rfl⟩
abbrev main_call1_v2 : Ref sig .tc := ⟨.hbm, 296, rfl⟩
abbrev main_v12 : Ref sig .tc := ⟨.hbm, 297, rfl⟩
abbrev main_v13 : Ref sig .tc := ⟨.hbm, 298, rfl⟩
abbrev main_v14 : Ref sig .tc := ⟨.hbm, 299, rfl⟩
abbrev main_v15 : Ref sig .tc := ⟨.hbm, 300, rfl⟩
abbrev main_v16 : Ref sig .tc := ⟨.hbm, 301, rfl⟩
abbrev main_v17 : Ref sig .tc := ⟨.hbm, 302, rfl⟩
abbrev main_v18 : Ref sig .tc := ⟨.hbm, 303, rfl⟩
abbrev main_v19 : Ref sig .tc := ⟨.hbm, 304, rfl⟩
abbrev main_v20 : Ref sig .tc := ⟨.hbm, 305, rfl⟩
abbrev main_v21 : Ref sig .tc := ⟨.hbm, 306, rfl⟩
abbrev main_v22 : Ref sig .tc := ⟨.hbm, 307, rfl⟩
abbrev main_v23 : Ref sig .tc := ⟨.hbm, 308, rfl⟩
abbrev main_v24 : Ref sig .tc := ⟨.hbm, 309, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg4_0 : Ref sig .tc := ⟨.smem, 2, rfl⟩
abbrev cc0_scratch1 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![32, 10], ![false, false]⟩

def k0_off1 (i : grid0.Coords) (c0_i32 : BitVec 32) : Fin 2 → Nat :=
  let c0 : Index := 0#32
  let arg1 : BitVec 32 := BitVec.ofNat 32 (i 1).val
  let c10_i32 : BitVec 32 := 10#32
  let v7 : BitVec 32 := Scalar.muli arg1 c10_i32
  let v8 : BitVec 32 := Scalar.addi v7 c0_i32
  let v9 : Index := Scalar.indexCast v8
  ![0, v9.toNat]
def k0_off2 (i : grid0.Coords) (c0_i32 : BitVec 32) : Fin 2 → Nat :=
  let c1 : Index := 1#32
  let arg1 : BitVec 32 := BitVec.ofNat 32 (i 1).val
  let c10_i32 : BitVec 32 := 10#32
  let v7 : BitVec 32 := Scalar.muli arg1 c10_i32
  let v8 : BitVec 32 := Scalar.addi v7 c0_i32
  let v11 : Index := Scalar.indexCast v8
  ![1, v11.toNat]
def k0_off3 (i : grid0.Coords) (c0_i32 : BitVec 32) : Fin 2 → Nat :=
  let c2 : Index := 2#32
  let arg1 : BitVec 32 := BitVec.ofNat 32 (i 1).val
  let c10_i32 : BitVec 32 := 10#32
  let v7 : BitVec 32 := Scalar.muli arg1 c10_i32
  let v8 : BitVec 32 := Scalar.addi v7 c0_i32
  let v13 : Index := Scalar.indexCast v8
  ![2, v13.toNat]
def k0_off4 (i : grid0.Coords) : Fin 1 → Nat :=
  let arg0 : BitVec 32 := BitVec.ofNat 32 (i 0).val
  let v11613 : Index := Scalar.indexCast arg0
  ![v11613.toNat]
def k0_cond3 (i : grid0.Coords) : BitVec 1 :=
  let arg0 : BitVec 32 := BitVec.ofNat 32 (i 0).val
  let c31_i32 : BitVec 32 := 31#32
  let v11628 : BitVec 1 := Scalar.cmpi .eq arg0 c31_i32
  let arg1 : BitVec 32 := BitVec.ofNat 32 (i 1).val
  let c9_i32_10435 : BitVec 32 := 9#32
  let v11629 : BitVec 1 := Scalar.cmpi .eq arg1 c9_i32_10435
  let v11630 : BitVec 1 := Scalar.andi v11628 v11629
  let v11631 : BitVec 32 := Scalar.extui v11630
  let c0_i32_10436 : BitVec 32 := 0#32
  let v11632 : BitVec 1 := Scalar.cmpi .ne v11631 c0_i32_10436
  v11632

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S3x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== KernelIdeal.lean ====
variable {F : FTy → Type} [FloatOps F] [Named F]
def κ : String → Option EReal := fun
  | "inv_n_angles" => some ((1 / 819200 : ℝ) : EReal)
  | _ => none
-- ==== ReferenceIdeal.lean ====
abbrev S32x8192x3 : Shape := ⟨3, ![32, 8192, 3]⟩
abbrev S32 : Shape := ⟨1, ![32]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S1x1x100x3 : Shape := ⟨4, ![1, 1, 100, 3]⟩
abbrev S1x1x100 : Shape := ⟨3, ![1, 1, 100]⟩
abbrev S1x1x100x1 : Shape := ⟨4, ![1, 1, 100, 1]⟩
abbrev S32x8192x1x3 : Shape := ⟨4, ![32, 8192, 1, 3]⟩
abbrev S32x8192x100x3 : Shape := ⟨4, ![32, 8192, 100, 3]⟩
abbrev S32x8192x100 : Shape := ⟨3, ![32, 8192, 100]⟩
abbrev S32x100 : Shape := ⟨2, ![32, 100]⟩

abbrev nBuf : Space → Nat
  | .hbm => 335
  | .vmem => 0
  | .smem => 0
  | _ => 0

abbrev hbmTy0_0 (i : Nat) : BufTy := match i % 128 with
  | 0 => ⟨S32x8192x3, .f32⟩
  | 1 => ⟨S32x8192x3, .f32⟩
  | 2 => ⟨S32, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1x1x1, .f32⟩
  | 18 => ⟨S1x1x1x1, .f32⟩
  | 19 => ⟨S1, .i32⟩
  | 20 => ⟨S_, .i32⟩
  | 21 => ⟨S1, .i32⟩
  | 22 => ⟨S_, .i32⟩
  | 23 => ⟨S1x1x100x3, .i64⟩
  | 24 => ⟨S1x1x100x3, .i64⟩
  | 25 => ⟨S1x1x100x3, .i64⟩
  | 26 => ⟨S1x1x100x3, .i64⟩
  | 27 => ⟨S_, .i64⟩
  | 28 => ⟨S1x1x100x3, .i64⟩
  | 29 => ⟨S1x1x100x3, .i64⟩
  | 30 => ⟨S_, .i64⟩
  | 31 => ⟨S1x1x100x3, .i64⟩
  | 32 => ⟨S1x1x100x3, .i64⟩
  | 33 => ⟨S_, .i64⟩
  | 34 => ⟨S1x1x100x3, .i64⟩
  | 35 => ⟨S1x1x100x3, .i64⟩
  | 36 => ⟨S_, .i64⟩
  | 37 => ⟨S1x1x100x3, .i64⟩
  | 38 => ⟨S1x1x100x3, .i64⟩
  | 39 => ⟨S1x1x100x3, .i64⟩
  | 40 => ⟨S1x1x100x3, .i64⟩
  | 41 => ⟨S1x1x100x3, .i64⟩
  | 42 => ⟨S_, .i64⟩
  | 43 => ⟨S1x1x100x3, .i64⟩
  | 44 => ⟨S1x1x100x3, .i64⟩
  | 45 => ⟨S1x1x100x3, .i32⟩
  | 46 => ⟨S1x1x100x3, .i32⟩
  | 47 => ⟨S_, .i32⟩
  | 48 => ⟨S_, .i32⟩
  | 49 => ⟨S_, .i32⟩
  | 50 => ⟨S1x1x100x3, .i32⟩
  | 51 => ⟨S1x1x100x3, .i32⟩
  | 52 => ⟨S1x1x100x3, .i32⟩
  | 53 => ⟨S1x1x100x3, .i32⟩
  | 54 => ⟨S1x1x100x3, .i32⟩
  | 55 => ⟨S_, .i32⟩
  | 56 => ⟨S1x1x100x3, .i32⟩
  | 57 => ⟨S1x1x100x3, .i32⟩
  | 58 => ⟨S_, .i32⟩
  | 59 => ⟨S1x1x100x3, .i32⟩
  | 60 => ⟨S1x1x100x3, .i32⟩
  | 61 => ⟨S1x1x100x3, .i32⟩
  | 62 => ⟨S1x1x100x3, .i32⟩
  | 63 => ⟨S1x1x100x3, .i32⟩
  | 64 => ⟨S_, .i32⟩
  | 65 => ⟨S1x1x100x3, .i32⟩
  | 66 => ⟨S1x1x100x3, .i32⟩
  | 67 => ⟨S_, .i32⟩
  | 68 => ⟨S1x1x100x3, .i32⟩
  | 69 => ⟨S1x1x100x3, .i32⟩
  | 70 => ⟨S1x1x100x3, .i32⟩
  | 71 => ⟨S1x1x100x3, .i32⟩
  | 72 => ⟨S1x1x100x3, .i32⟩
  | 73 => ⟨S_, .i32⟩
  | 74 => ⟨S1x1x100x3, .i32⟩
  | 75 => ⟨S1x1x100x3, .i32⟩
  | 76 => ⟨S_, .i32⟩
  | 77 => ⟨S1x1x100x3, .i32⟩
  | 78 => ⟨S1x1x100x3, .i32⟩
  | 79 => ⟨S1x1x100x3, .i32⟩
  | 80 => ⟨S1x1x100x3, .i32⟩
  | 81 => ⟨S1x1x100x3, .i32⟩
  | 82 => ⟨S_, .i32⟩
  | 83 => ⟨S1x1x100x3, .i32⟩
  | 84 => ⟨S1x1x100x3, .i32⟩
  | 85 => ⟨S_, .i32⟩
  | 86 => ⟨S1x1x100x3, .i32⟩
  | 87 => ⟨S1x1x100x3, .i32⟩
  | 88 => ⟨S1x1x100x3, .i32⟩
  | 89 => ⟨S1x1x100x3, .i32⟩
  | 90 => ⟨S1x1x100x3, .i32⟩
  | 91 => ⟨S1x1x100x3, .i32⟩
  | 92 => ⟨S1x1x100x3, .i32⟩
  | 93 => ⟨S1x1x100x3, .i32⟩
  | 94 => ⟨S_, .i32⟩
  | 95 => ⟨S1x1x100x3, .i32⟩
  | 96 => ⟨S1x1x100x3, .i32⟩
  | 97 => ⟨S1x1x100x3, .i32⟩
  | 98 => ⟨S_, .i32⟩
  | 99 => ⟨S1x1x100x3, .i32⟩
  | 100 => ⟨S1x1x100x3, .i32⟩
  | 101 => ⟨S_, .i32⟩
  | 102 => ⟨S1x1x100x3, .i32⟩
  | 103 => ⟨S1x1x100x3, .i32⟩
  | 104 => ⟨S1x1x100x3, .i32⟩
  | 105 => ⟨S1x1x100x3, .i32⟩
  | 106 => ⟨S1x1x100x3, .i32⟩
  | 107 => ⟨S_, .i32⟩
  | 108 => ⟨S1x1x100x3, .i32⟩
  | 109 => ⟨S1x1x100x3, .i32⟩
  | 110 => ⟨S_, .i32⟩
  | 111 => ⟨S1x1x100x3, .i32⟩
  | 112 => ⟨S1x1x100x3, .i32⟩
  | 113 => ⟨S1x1x100x3, .i32⟩
  | 114 => ⟨S1x1x100x3, .i32⟩
  | 115 => ⟨S1x1x100x3, .i32⟩
  | 116 => ⟨S_, .i32⟩
  | 117 => ⟨S1x1x100x3, .i32⟩
  | 118 => ⟨S1x1x100x3, .i32⟩
  | 119 => ⟨S_, .i32⟩
  | 120 => ⟨S1x1x100x3, .i32⟩
  | 121 => ⟨S1x1x100x3, .i32⟩
  | 122 => ⟨S1x1x100x3, .i32⟩
  | 123 => ⟨S1x1x100x3, .i32⟩
  | 124 => ⟨S1x1x100x3, .i32⟩
  | 125 => ⟨S_, .i32⟩
  | 126 => ⟨S1x1x100x3, .i32⟩
  | 127 => ⟨S1x1x100x3, .i32⟩
  | _ => ⟨S32x8192x3, .f32⟩

abbrev hbmTy0_1 (i : Nat) : BufTy := match i % 128 with
  | 0 => ⟨S_, .i32⟩
  | 1 => ⟨S1x1x100x3, .i32⟩
  | 2 => ⟨S1x1x100x3, .i32⟩
  | 3 => ⟨S1x1x100x3, .i32⟩
  | 4 => ⟨S1x1x100x3, .i32⟩
  | 5 => ⟨S1x1x100x3, .i32⟩
  | 6 => ⟨S1x1x100x3, .i32⟩
  | 7 => ⟨S1x1x100x3, .i32⟩
  | 8 => ⟨S1x1x100x3, .i32⟩
  | 9 => ⟨S_, .i32⟩
  | 10 => ⟨S1x1x100x3, .i32⟩
  | 11 => ⟨S1x1x100x3, .i32⟩
  | 12 => ⟨S1x1x100x3, .i32⟩
  | 13 => ⟨S_, .i32⟩
  | 14 => ⟨S1x1x100x3, .i32⟩
  | 15 => ⟨S1x1x100x3, .i32⟩
  | 16 => ⟨S_, .i32⟩
  | 17 => ⟨S1x1x100x3, .i32⟩
  | 18 => ⟨S1x1x100x3, .i32⟩
  | 19 => ⟨S1x1x100x3, .i32⟩
  | 20 => ⟨S1x1x100x3, .i32⟩
  | 21 => ⟨S1x1x100x3, .i32⟩
  | 22 => ⟨S_, .i32⟩
  | 23 => ⟨S1x1x100x3, .i32⟩
  | 24 => ⟨S1x1x100x3, .i32⟩
  | 25 => ⟨S_, .i32⟩
  | 26 => ⟨S1x1x100x3, .i32⟩
  | 27 => ⟨S1x1x100x3, .i32⟩
  | 28 => ⟨S1x1x100x3, .i32⟩
  | 29 => ⟨S1x1x100x3, .i32⟩
  | 30 => ⟨S1x1x100x3, .i32⟩
  | 31 => ⟨S_, .i32⟩
  | 32 => ⟨S1x1x100x3, .i32⟩
  | 33 => ⟨S1x1x100x3, .i32⟩
  | 34 => ⟨S_, .i32⟩
  | 35 => ⟨S1x1x100x3, .i32⟩
  | 36 => ⟨S1x1x100x3, .i32⟩
  | 37 => ⟨S1x1x100x3, .i32⟩
  | 38 => ⟨S1x1x100x3, .i32⟩
  | 39 => ⟨S1x1x100x3, .i32⟩
  | 40 => ⟨S_, .i32⟩
  | 41 => ⟨S1x1x100x3, .i32⟩
  | 42 => ⟨S1x1x100x3, .i32⟩
  | 43 => ⟨S_, .i32⟩
  | 44 => ⟨S1x1x100x3, .i32⟩
  | 45 => ⟨S1x1x100x3, .i32⟩
  | 46 => ⟨S1x1x100x3, .i32⟩
  | 47 => ⟨S1x1x100x3, .i32⟩
  | 48 => ⟨S1x1x100x3, .i32⟩
  | 49 => ⟨S1x1x100x3, .i32⟩
  | 50 => ⟨S1x1x100x3, .i32⟩
  | 51 => ⟨S1x1x100x3, .i32⟩
  | 52 => ⟨S_, .i32⟩
  | 53 => ⟨S1x1x100x3, .i32⟩
  | 54 => ⟨S1x1x100x3, .i32⟩
  | 55 => ⟨S1x1x100x3, .i32⟩
  | 56 => ⟨S_, .i32⟩
  | 57 => ⟨S1x1x100x3, .i32⟩
  | 58 => ⟨S1x1x100x3, .i32⟩
  | 59 => ⟨S_, .i32⟩
  | 60 => ⟨S1x1x100x3, .i32⟩
  | 61 => ⟨S1x1x100x3, .i32⟩
  | 62 => ⟨S1x1x100x3, .i32⟩
  | 63 => ⟨S1x1x100x3, .i32⟩
  | 64 => ⟨S1x1x100x3, .i32⟩
  | 65 => ⟨S_, .i32⟩
  | 66 => ⟨S1x1x100x3, .i32⟩
  | 67 => ⟨S1x1x100x3, .i32⟩
  | 68 => ⟨S_, .i32⟩
  | 69 => ⟨S1x1x100x3, .i32⟩
  | 70 => ⟨S1x1x100x3, .i32⟩
  | 71 => ⟨S1x1x100x3, .i32⟩
  | 72 => ⟨S1x1x100x3, .i32⟩
  | 73 => ⟨S1x1x100x3, .i32⟩
  | 74 => ⟨S_, .i32⟩
  | 75 => ⟨S1x1x100x3, .i32⟩
  | 76 => ⟨S1x1x100x3, .i32⟩
  | 77 => ⟨S_, .i32⟩
  | 78 => ⟨S1x1x100x3, .i32⟩
  | 79 => ⟨S1x1x100x3, .i32⟩
  | 80 => ⟨S1x1x100x3, .i32⟩
  | 81 => ⟨S1x1x100x3, .i32⟩
  | 82 => ⟨S1x1x100x3, .i32⟩
  | 83 => ⟨S_, .i32⟩
  | 84 => ⟨S1x1x100x3, .i32⟩
  | 85 => ⟨S1x1x100x3, .i32⟩
  | 86 => ⟨S_, .i32⟩
  | 87 => ⟨S1x1x100x3, .i32⟩
  | 88 => ⟨S1x1x100x3, .i32⟩
  | 89 => ⟨S1x1x100x3, .i32⟩
  | 90 => ⟨S1x1x100x3, .i32⟩
  | 91 => ⟨S1x1x100x3, .i32⟩
  | 92 => ⟨S1x1x100x3, .i32⟩
  | 93 => ⟨S1x1x100x3, .i32⟩
  | 94 => ⟨S1x1x100x3, .i32⟩
  | 95 => ⟨S_, .i32⟩
  | 96 => ⟨S1x1x100x3, .i32⟩
  | 97 => ⟨S1x1x100x3, .i32⟩
  | 98 => ⟨S1x1x100x3, .i32⟩
  | 99 => ⟨S_, .i32⟩
  | 100 => ⟨S1x1x100x3, .i32⟩
  | 101 => ⟨S1x1x100x3, .i32⟩
  | 102 => ⟨S_, .i32⟩
  | 103 => ⟨S1x1x100x3, .i32⟩
  | 104 => ⟨S1x1x100x3, .i32⟩
  | 105 => ⟨S1x1x100x3, .i32⟩
  | 106 => ⟨S1x1x100x3, .i32⟩
  | 107 => ⟨S1x1x100x3, .i32⟩
  | 108 => ⟨S_, .i32⟩
  | 109 => ⟨S1x1x100x3, .i32⟩
  | 110 => ⟨S1x1x100x3, .i32⟩
  | 111 => ⟨S_, .i32⟩
  | 112 => ⟨S1x1x100x3, .i32⟩
  | 113 => ⟨S1x1x100x3, .i32⟩
  | 114 => ⟨S1x1x100x3, .i32⟩
  | 115 => ⟨S1x1x100x3, .i32⟩
  | 116 => ⟨S1x1x100x3, .i32⟩
  | 117 => ⟨S_, .i32⟩
  | 118 => ⟨S1x1x100x3, .i32⟩
  | 119 => ⟨S1x1x100x3, .i32⟩
  | 120 => ⟨S_, .i32⟩
  | 121 => ⟨S1x1x100x3, .i32⟩
  | 122 => ⟨S1x1x100x3, .i32⟩
  | 123 => ⟨S1x1x100x3, .i32⟩
  | 124 => ⟨S1x1x100x3, .i32⟩
  | 125 => ⟨S1x1x100x3, .i32⟩
  | 126 => ⟨S_, .i32⟩
  | 127 => ⟨S1x1x100x3, .i32⟩
  | _ => ⟨S32x8192x3, .f32⟩

abbrev hbmTy0_2 (i : Nat) : BufTy := match i % 128 with
  | 0 => ⟨S1x1x100x3, .i32⟩
  | 1 => ⟨S_, .i32⟩
  | 2 => ⟨S1x1x100x3, .i32⟩
  | 3 => ⟨S1x1x100x3, .i32⟩
  | 4 => ⟨S1x1x100x3, .i32⟩
  | 5 => ⟨S1x1x100x3, .i32⟩
  | 6 => ⟨S1x1x100x3, .i32⟩
  | 7 => ⟨S1x1x100x3, .i32⟩
  | 8 => ⟨S1x1x100x3, .i32⟩
  | 9 => ⟨S1x1x100x3, .i32⟩
  | 10 => ⟨S_, .i32⟩
  | 11 => ⟨S1x1x100x3, .i32⟩
  | 12 => ⟨S1x1x100x3, .i32⟩
  | 13 => ⟨S1x1x100x3, .i32⟩
  | 14 => ⟨S_, .i32⟩
  | 15 => ⟨S1x1x100x3, .i32⟩
  | 16 => ⟨S1x1x100x3, .i32⟩
  | 17 => ⟨S_, .i32⟩
  | 18 => ⟨S1x1x100x3, .i32⟩
  | 19 => ⟨S1x1x100x3, .i32⟩
  | 20 => ⟨S1x1x100x3, .f32⟩
  | 21 => ⟨S_, .f32⟩
  | 22 => ⟨S1x1x100x3, .f32⟩
  | 23 => ⟨S1x1x100x3, .f32⟩
  | 24 => ⟨S1x1x1x1, .f32⟩
  | 25 => ⟨S1x1x100x3, .f32⟩
  | 26 => ⟨S1x1x100x3, .f32⟩
  | 27 => ⟨S1x1x100x3, .f32⟩
  | 28 => ⟨S1x1x100x3, .f32⟩
  | 29 => ⟨S1x1x100x3, .f32⟩
  | 30 => ⟨S1x1x100x3, .f32⟩
  | 31 => ⟨S_, .f32⟩
  | 32 => ⟨S1x1x100x3, .f32⟩
  | 33 => ⟨S1x1x100x3, .f32⟩
  | 34 => ⟨S_, .f32⟩
  | 35 => ⟨S1x1x100x3, .f32⟩
  | 36 => ⟨S1x1x100x3, .f32⟩
  | 37 => ⟨S1x1x100x3, .f32⟩
  | 38 => ⟨S_, .f32⟩
  | 39 => ⟨S1x1x100, .f32⟩
  | 40 => ⟨S1x1x100x1, .f32⟩
  | 41 => ⟨S1x1x100x1, .f32⟩
  | 42 => ⟨S1x1x100x3, .f32⟩
  | 43 => ⟨S1x1x100x3, .f32⟩
  | 44 => ⟨S32x8192x1x3, .f32⟩
  | 45 => ⟨S32x8192x100x3, .f32⟩
  | 46 => ⟨S32x8192x100x3, .f32⟩
  | 47 => ⟨S32x8192x100x3, .f32⟩
  | 48 => ⟨S_, .f32⟩
  | 49 => ⟨S32x8192x100, .f32⟩
  | 50 => ⟨S32x8192x1x3, .f32⟩
  | 51 => ⟨S32x8192x100x3, .f32⟩
  | 52 => ⟨S32x8192x100x3, .f32⟩
  | 53 => ⟨S32x8192x100x3, .f32⟩
  | 54 => ⟨S_, .f32⟩
  | 55 => ⟨S32x8192x100, .f32⟩
  | 56 => ⟨S32x8192x100, .f32⟩
  | 57 => ⟨S32x8192x100, .f32⟩
  | 58 => ⟨S32x8192x100, .f32⟩
  | 59 => ⟨S32x8192x100, .f32⟩
  | 60 => ⟨S_, .f32⟩
  | 61 => ⟨S32x100, .f32⟩
  | 62 => ⟨S_, .f32⟩
  | 63 => ⟨S32x100, .f32⟩
  | 64 => ⟨S32x100, .f32⟩
  | 65 => ⟨S_, .f32⟩
  | 66 => ⟨S32x100, .f32⟩
  | 67 => ⟨S32x100, .f32⟩
  | 68 => ⟨S_, .f32⟩
  | 69 => ⟨S32, .f32⟩
  | 70 => ⟨S_, .f32⟩
  | 71 => ⟨S32, .f32⟩
  | 72 => ⟨S32, .f32⟩
  | 73 => ⟨S32, .f32⟩
  | 74 => ⟨S_, .f32⟩
  | 75 => ⟨S_, .f32⟩
  | 76 => ⟨S_, .f32⟩
  | 77 => ⟨S_, .f32⟩
  | 78 => ⟨S_, .f32⟩
  | _ => ⟨S32x8192x3, .f32⟩

abbrev hbmTy (i : Nat) : BufTy := match i / 128 with
  | 0 => hbmTy0_0 i
  | 1 => hbmTy0_1 i
  | 2 => hbmTy0_2 i
  | _ => ⟨S32x8192x3, .f32⟩

abbrev bufTy : (tb : Table) → Fin (tcTables nBuf tb) → BufTy
  | .hbm, ⟨i, _⟩ => hbmTy i
  | _, _ => ⟨S32x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c : Ref sig .tc := ⟨.hbm, 27, rfl⟩
abbrev main_call0_v12 : Ref sig .tc := ⟨.hbm, 28, rfl⟩
abbrev main_call0_v13 : Ref sig .tc := ⟨.hbm, 29, rfl⟩
abbrev main_call0_c_0 : Ref sig .tc := ⟨.hbm, 30, rfl⟩
abbrev main_call0_v14 : Ref sig .tc := ⟨.hbm, 31, rfl⟩
abbrev main_call0_v15 : Ref sig .tc := ⟨.hbm, 32, rfl⟩
abbrev main_call0_c_1 : Ref sig .tc := ⟨.hbm, 33, rfl⟩
abbrev main_call0_v16 : Ref sig .tc := ⟨.hbm, 34, rfl⟩
abbrev main_call0_v17 : Ref sig .tc := ⟨.hbm, 35, rfl⟩
abbrev main_call0_c_2 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_c_3 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_call0_v0 : Ref sig .tc := ⟨.hbm, 47, rfl⟩
abbrev main_call0_call0_c : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_c_0 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_c_1 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_call0_v12 : Ref sig .tc := ⟨.hbm, 62, rfl⟩
abbrev main_call0_call0_v13 : Ref sig .tc := ⟨.hbm, 63, rfl⟩
abbrev main_call0_call0_c_2 : Ref sig .tc := ⟨.hbm, 64, rfl⟩
abbrev main_call0_call0_v14 : Ref sig .tc := ⟨.hbm, 65, rfl⟩
abbrev main_call0_call0_v15 : Ref sig .tc := ⟨.hbm, 66, rfl⟩
abbrev main_call0_call0_c_3 : Ref sig .tc := ⟨.hbm, 67, rfl⟩
abbrev main_call0_call0_v16 : Ref sig .tc := ⟨.hbm, 68, rfl⟩
abbrev main_call0_call0_v17 : Ref sig .tc := ⟨.hbm, 69, rfl⟩
abbrev main_call0_call0_v18 : Ref sig .tc := ⟨.hbm, 70, rfl⟩
abbrev main_call0_call0_v19 : Ref sig .tc := ⟨.hbm, 71, rfl⟩
abbrev main_call0_call0_v20 : Ref sig .tc := ⟨.hbm, 72, rfl⟩
abbrev main_call0_call0_c_4 : Ref sig .tc := ⟨.hbm, 73, rfl⟩
abbrev main_call0_call0_v21 : Ref sig .tc := ⟨.hbm, 74, rfl⟩
abbrev main_call0_call0_v22 : Ref sig .tc := ⟨.hbm, 75, rfl⟩
abbrev main_call0_call0_c_5 : Ref sig .tc := ⟨.hbm, 76, rfl⟩
abbrev main_call0_call0_v23 : Ref sig .tc := ⟨.hbm, 77, rfl⟩
abbrev main_call0_call0_v24 : Ref sig .tc := ⟨.hbm, 78, rfl⟩
abbrev main_call0_call0_v25 : Ref sig .tc := ⟨.hbm, 79, rfl⟩
abbrev main_call0_call0_v26 : Ref sig .tc := ⟨.hbm, 80, rfl⟩
abbrev main_call0_call0_v27 : Ref sig .tc := ⟨.hbm, 81, rfl⟩
abbrev main_call0_call0_c_6 : Ref sig .tc := ⟨.hbm, 82, rfl⟩
abbrev main_call0_call0_v28 : Ref sig .tc := ⟨.hbm, 83, rfl⟩
abbrev main_call0_call0_v29 : Ref sig .tc := ⟨.hbm, 84, rfl⟩
abbrev main_call0_call0_c_7 : Ref sig .tc := ⟨.hbm, 85, rfl⟩
abbrev main_call0_call0_v30 : Ref sig .tc := ⟨.hbm, 86, rfl⟩
abbrev main_call0_call0_v31 : Ref sig .tc := ⟨.hbm, 87, rfl⟩
abbrev main_call0_call0_v32 : Ref sig .tc := ⟨.hbm, 88, rfl⟩
abbrev main_call0_call0_v33 : Ref sig .tc := ⟨.hbm, 89, rfl⟩
abbrev main_call0_call0_v34 : Ref sig .tc := ⟨.hbm, 90, rfl⟩
abbrev main_call0_call0_v35 : Ref sig .tc := ⟨.hbm, 91, rfl⟩
abbrev main_call0_call0_v36 : Ref sig .tc := ⟨.hbm, 92, rfl⟩
abbrev main_call0_call0_v37 : Ref sig .tc := ⟨.hbm, 93, rfl⟩
abbrev main_call0_call0_c_8 : Ref sig .tc := ⟨.hbm, 94, rfl⟩
abbrev main_call0_call0_v38 : Ref sig .tc := ⟨.hbm, 95, rfl⟩
abbrev main_call0_call0_v39 : Ref sig .tc := ⟨.hbm, 96, rfl⟩
abbrev main_call0_call0_v40 : Ref sig .tc := ⟨.hbm, 97, rfl⟩
abbrev main_call0_call0_c_9 : Ref sig .tc := ⟨.hbm, 98, rfl⟩
abbrev main_call0_call0_v41 : Ref sig .tc := ⟨.hbm, 99, rfl⟩
abbrev main_call0_call0_v42 : Ref sig .tc := ⟨.hbm, 100, rfl⟩
abbrev main_call0_call0_c_10 : Ref sig .tc := ⟨.hbm, 101, rfl⟩
abbrev main_call0_call0_v43 : Ref sig .tc := ⟨.hbm, 102, rfl⟩
abbrev main_call0_call0_v44 : Ref sig .tc := ⟨.hbm, 103, rfl⟩
abbrev main_call0_call0_v45 : Ref sig .tc := ⟨.hbm, 104, rfl⟩
abbrev main_call0_call0_v46 : Ref sig .tc := ⟨.hbm, 105, rfl⟩
abbrev main_call0_call0_v47 : Ref sig .tc := ⟨.hbm, 106, rfl⟩
abbrev main_call0_call0_c_11 : Ref sig .tc := ⟨.hbm, 107, rfl⟩
abbrev main_call0_call0_v48 : Ref sig .tc := ⟨.hbm, 108, rfl⟩
abbrev main_call0_call0_v49 : Ref sig .tc := ⟨.hbm, 109, rfl⟩
abbrev main_call0_call0_c_12 : Ref sig .tc := ⟨.hbm, 110, rfl⟩
abbrev main_call0_call0_v50 : Ref sig .tc := ⟨.hbm, 111, rfl⟩
abbrev main_call0_call0_v51 : Ref sig .tc := ⟨.hbm, 112, rfl⟩
abbrev main_call0_call0_v52 : Ref sig .tc := ⟨.hbm, 113, rfl⟩
abbrev main_call0_call0_v53 : Ref sig .tc := ⟨.hbm, 114, rfl⟩
abbrev main_call0_call0_v54 : Ref sig .tc := ⟨.hbm, 115, rfl⟩
abbrev main_call0_call0_c_13 : Ref sig .tc := ⟨.hbm, 116, rfl⟩
abbrev main_call0_call0_v55 : Ref sig .tc := ⟨.hbm, 117, rfl⟩
abbrev main_call0_call0_v56 : Ref sig .tc := ⟨.hbm, 118, rfl⟩
abbrev main_call0_call0_c_14 : Ref sig .tc := ⟨.hbm, 119, rfl⟩
abbrev main_call0_call0_v57 : Ref sig .tc := ⟨.hbm, 120, rfl⟩
abbrev main_call0_call0_v58 : Ref sig .tc := ⟨.hbm, 121, rfl⟩
abbrev main_call0_call0_v59 : Ref sig .tc := ⟨.hbm, 122, rfl⟩
abbrev main_call0_call0_v60 : Ref sig .tc := ⟨.hbm, 123, rfl⟩
abbrev main_call0_call0_v61 : Ref sig .tc := ⟨.hbm, 124, rfl⟩
abbrev main_call0_call0_c_15 : Ref sig .tc := ⟨.hbm, 125, rfl⟩
abbrev main_call0_call0_v62 : Ref sig .tc := ⟨.hbm, 126, rfl⟩
abbrev main_call0_call0_v63 : Ref sig .tc := ⟨.hbm, 127, rfl⟩
abbrev main_call0_call0_c_16 : Ref sig .tc := ⟨.hbm, 128, rfl⟩
abbrev main_call0_call0_v64 : Ref sig .tc := ⟨.hbm, 129, rfl⟩
abbrev main_call0_call0_v65 : Ref sig .tc := ⟨.hbm, 130, rfl⟩
abbrev main_call0_call0_v66 : Ref sig .tc := ⟨.hbm, 131, rfl⟩
abbrev main_call0_call0_v67 : Ref sig .tc := ⟨.hbm, 132, rfl⟩
abbrev main_call0_call0_v68 : Ref sig .tc := ⟨.hbm, 133, rfl⟩
abbrev main_call0_call0_v69 : Ref sig .tc := ⟨.hbm, 134, rfl⟩
abbrev main_call0_call0_v70 : Ref sig .tc := ⟨.hbm, 135, rfl⟩
abbrev main_call0_call0_v71 : Ref sig .tc := ⟨.hbm, 136, rfl⟩
abbrev main_call0_call0_c_17 : Ref sig .tc := ⟨.hbm, 137, rfl⟩
abbrev main_call0_call0_v72 : Ref sig .tc := ⟨.hbm, 138, rfl⟩
abbrev main_call0_call0_v73 : Ref sig .tc := ⟨.hbm, 139, rfl⟩
abbrev main_call0_call0_v74 : Ref sig .tc := ⟨.hbm, 140, rfl⟩
abbrev main_call0_call0_c_18 : Ref sig .tc := ⟨.hbm, 141, rfl⟩
abbrev main_call0_call0_v75 : Ref sig .tc := ⟨.hbm, 142, rfl⟩
abbrev main_call0_call0_v76 : Ref sig .tc := ⟨.hbm, 143, rfl⟩
abbrev main_call0_call0_c_19 : Ref sig .tc := ⟨.hbm, 144, rfl⟩
abbrev main_call0_call0_v77 : Ref sig .tc := ⟨.hbm, 145, rfl⟩
abbrev main_call0_call0_v78 : Ref sig .tc := ⟨.hbm, 146, rfl⟩
abbrev main_call0_call0_v79 : Ref sig .tc := ⟨.hbm, 147, rfl⟩
abbrev main_call0_call0_v80 : Ref sig .tc := ⟨.hbm, 148, rfl⟩
abbrev main_call0_call0_v81 : Ref sig .tc := ⟨.hbm, 149, rfl⟩
abbrev main_call0_call0_c_20 : Ref sig .tc := ⟨.hbm, 150, rfl⟩
abbrev main_call0_call0_v82 : Ref sig .tc := ⟨.hbm, 151, rfl⟩
abbrev main_call0_call0_v83 : Ref sig .tc := ⟨.hbm, 152, rfl⟩
abbrev main_call0_call0_c_21 : Ref sig .tc := ⟨.hbm, 153, rfl⟩
abbrev main_call0_call0_v84 : Ref sig .tc := ⟨.hbm, 154, rfl⟩
abbrev main_call0_call0_v85 : Ref sig .tc := ⟨.hbm, 155, rfl⟩
abbrev main_call0_call0_v86 : Ref sig .tc := ⟨.hbm, 156, rfl⟩
abbrev main_call0_call0_v87 : Ref sig .tc := ⟨.hbm, 157, rfl⟩
abbrev main_call0_call0_v88 : Ref sig .tc := ⟨.hbm, 158, rfl⟩
abbrev main_call0_call0_c_22 : Ref sig .tc := ⟨.hbm, 159, rfl⟩
abbrev main_call0_call0_v89 : Ref sig .tc := ⟨.hbm, 160, rfl⟩
abbrev main_call0_call0_v90 : Ref sig .tc := ⟨.hbm, 161, rfl⟩
abbrev main_call0_call0_c_23 : Ref sig .tc := ⟨.hbm, 162, rfl⟩
abbrev main_call0_call0_v91 : Ref sig .tc := ⟨.hbm, 163, rfl⟩
abbrev main_call0_call0_v92 : Ref sig .tc := ⟨.hbm, 164, rfl⟩
abbrev main_call0_call0_v93 : Ref sig .tc := ⟨.hbm, 165, rfl⟩
abbrev main_call0_call0_v94 : Ref sig .tc := ⟨.hbm, 166, rfl⟩
abbrev main_call0_call0_v95 : Ref sig .tc := ⟨.hbm, 167, rfl⟩
abbrev main_call0_call0_c_24 : Ref sig .tc := ⟨.hbm, 168, rfl⟩
abbrev main_call0_call0_v96 : Ref sig .tc := ⟨.hbm, 169, rfl⟩
abbrev main_call0_call0_v97 : Ref sig .tc := ⟨.hbm, 170, rfl⟩
abbrev main_call0_call0_c_25 : Ref sig .tc := ⟨.hbm, 171, rfl⟩
abbrev main_call0_call0_v98 : Ref sig .tc := ⟨.hbm, 172, rfl⟩
abbrev main_call0_call0_v99 : Ref sig .tc := ⟨.hbm, 173, rfl⟩
abbrev main_call0_call0_v100 : Ref sig .tc := ⟨.hbm, 174, rfl⟩
abbrev main_call0_call0_v101 : Ref sig .tc := ⟨.hbm, 175, rfl⟩
abbrev main_call0_call0_v102 : Ref sig .tc := ⟨.hbm, 176, rfl⟩
abbrev main_call0_call0_v103 : Ref sig .tc := ⟨.hbm, 177, rfl⟩
abbrev main_call0_call0_v104 : Ref sig .tc := ⟨.hbm, 178, rfl⟩
abbrev main_call0_call0_v105 : Ref sig .tc := ⟨.hbm, 179, rfl⟩
abbrev main_call0_call0_c_26 : Ref sig .tc := ⟨.hbm, 180, rfl⟩
abbrev main_call0_call0_v106 : Ref sig .tc := ⟨.hbm, 181, rfl⟩
abbrev main_call0_call0_v107 : Ref sig .tc := ⟨.hbm, 182, rfl⟩
abbrev main_call0_call0_v108 : Ref sig .tc := ⟨.hbm, 183, rfl⟩
abbrev main_call0_call0_c_27 : Ref sig .tc := ⟨.hbm, 184, rfl⟩
abbrev main_call0_call0_v109 : Ref sig .tc := ⟨.hbm, 185, rfl⟩
abbrev main_call0_call0_v110 : Ref sig .tc := ⟨.hbm, 186, rfl⟩
abbrev main_call0_call0_c_28 : Ref sig .tc := ⟨.hbm, 187, rfl⟩
abbrev main_call0_call0_v111 : Ref sig .tc := ⟨.hbm, 188, rfl⟩
abbrev main_call0_call0_v112 : Ref sig .tc := ⟨.hbm, 189, rfl⟩
abbrev main_call0_call0_v113 : Ref sig .tc := ⟨.hbm, 190, rfl⟩
abbrev main_call0_call0_v114 : Ref sig .tc := ⟨.hbm, 191, rfl⟩
abbrev main_call0_call0_v115 : Ref sig .tc := ⟨.hbm, 192, rfl⟩
abbrev main_call0_call0_c_29 : Ref sig .tc := ⟨.hbm, 193, rfl⟩
abbrev main_call0_call0_v116 : Ref sig .tc := ⟨.hbm, 194, rfl⟩
abbrev main_call0_call0_v117 : Ref sig .tc := ⟨.hbm, 195, rfl⟩
abbrev main_call0_call0_c_30 : Ref sig .tc := ⟨.hbm, 196, rfl⟩
abbrev main_call0_call0_v118 : Ref sig .tc := ⟨.hbm, 197, rfl⟩
abbrev main_call0_call0_v119 : Ref sig .tc := ⟨.hbm, 198, rfl⟩
abbrev main_call0_call0_v120 : Ref sig .tc := ⟨.hbm, 199, rfl⟩
abbrev main_call0_call0_v121 : Ref sig .tc := ⟨.hbm, 200, rfl⟩
abbrev main_call0_call0_v122 : Ref sig .tc := ⟨.hbm, 201, rfl⟩
abbrev main_call0_call0_c_31 : Ref sig .tc := ⟨.hbm, 202, rfl⟩
abbrev main_call0_call0_v123 : Ref sig .tc := ⟨.hbm, 203, rfl⟩
abbrev main_call0_call0_v124 : Ref sig .tc := ⟨.hbm, 204, rfl⟩
abbrev main_call0_call0_c_32 : Ref sig .tc := ⟨.hbm, 205, rfl⟩
abbrev main_call0_call0_v125 : Ref sig .tc := ⟨.hbm, 206, rfl⟩
abbrev main_call0_call0_v126 : Ref sig .tc := ⟨.hbm, 207, rfl⟩
abbrev main_call0_call0_v127 : Ref sig .tc := ⟨.hbm, 208, rfl⟩
abbrev main_call0_call0_v128 : Ref sig .tc := ⟨.hbm, 209, rfl⟩
abbrev main_call0_call0_v129 : Ref sig .tc := ⟨.hbm, 210, rfl⟩
abbrev main_call0_call0_c_33 : Ref sig .tc := ⟨.hbm, 211, rfl⟩
abbrev main_call0_call0_v130 : Ref sig .tc := ⟨.hbm, 212, rfl⟩
abbrev main_call0_call0_v131 : Ref sig .tc := ⟨.hbm, 213, rfl⟩
abbrev main_call0_call0_c_34 : Ref sig .tc := ⟨.hbm, 214, rfl⟩
abbrev main_call0_call0_v132 : Ref sig .tc := ⟨.hbm, 215, rfl⟩
abbrev main_call0_call0_v133 : Ref sig .tc := ⟨.hbm, 216, rfl⟩
abbrev main_call0_call0_v134 : Ref sig .tc := ⟨.hbm, 217, rfl⟩
abbrev main_call0_call0_v135 : Ref sig .tc := ⟨.hbm, 218, rfl⟩
abbrev main_call0_call0_v136 : Ref sig .tc := ⟨.hbm, 219, rfl⟩
abbrev main_call0_call0_v137 : Ref sig .tc := ⟨.hbm, 220, rfl⟩
abbrev main_call0_call0_v138 : Ref sig .tc := ⟨.hbm, 221, rfl⟩
abbrev main_call0_call0_v139 : Ref sig .tc := ⟨.hbm, 222, rfl⟩
abbrev main_call0_call0_c_35 : Ref sig .tc := ⟨.hbm, 223, rfl⟩
abbrev main_call0_call0_v140 : Ref sig .tc := ⟨.hbm, 224, rfl⟩
abbrev main_call0_call0_v141 : Ref sig .tc := ⟨.hbm, 225, rfl⟩
abbrev main_call0_call0_v142 : Ref sig .tc := ⟨.hbm, 226, rfl⟩
abbrev main_call0_call0_c_36 : Ref sig .tc := ⟨.hbm, 227, rfl⟩
abbrev main_call0_call0_v143 : Ref sig .tc := ⟨.hbm, 228, rfl⟩
abbrev main_call0_call0_v144 : Ref sig .tc := ⟨.hbm, 229, rfl⟩
abbrev main_call0_call0_c_37 : Ref sig .tc := ⟨.hbm, 230, rfl⟩
abbrev main_call0_call0_v145 : Ref sig .tc := ⟨.hbm, 231, rfl⟩
abbrev main_call0_call0_v146 : Ref sig .tc := ⟨.hbm, 232, rfl⟩
abbrev main_call0_call0_v147 : Ref sig .tc := ⟨.hbm, 233, rfl⟩
abbrev main_call0_call0_v148 : Ref sig .tc := ⟨.hbm, 234, rfl⟩
abbrev main_call0_call0_v149 : Ref sig .tc := ⟨.hbm, 235, rfl⟩
abbrev main_call0_call0_c_38 : Ref sig .tc := ⟨.hbm, 236, rfl⟩
abbrev main_call0_call0_v150 : Ref sig .tc := ⟨.hbm, 237, rfl⟩
abbrev main_call0_call0_v151 : Ref sig .tc := ⟨.hbm, 238, rfl⟩
abbrev main_call0_call0_c_39 : Ref sig .tc := ⟨.hbm, 239, rfl⟩
abbrev main_call0_call0_v152 : Ref sig .tc := ⟨.hbm, 240, rfl⟩
abbrev main_call0_call0_v153 : Ref sig .tc := ⟨.hbm, 241, rfl⟩
abbrev main_call0_call0_v154 : Ref sig .tc := ⟨.hbm, 242, rfl⟩
abbrev main_call0_call0_v155 : Ref sig .tc := ⟨.hbm, 243, rfl⟩
abbrev main_call0_call0_v156 : Ref sig .tc := ⟨.hbm, 244, rfl⟩
abbrev main_call0_call0_c_40 : Ref sig .tc := ⟨.hbm, 245, rfl⟩
abbrev main_call0_call0_v157 : Ref sig .tc := ⟨.hbm, 246, rfl⟩
abbrev main_call0_call0_v158 : Ref sig .tc := ⟨.hbm, 247, rfl⟩
abbrev main_call0_call0_c_41 : Ref sig .tc := ⟨.hbm, 248, rfl⟩
abbrev main_call0_call0_v159 : Ref sig .tc := ⟨.hbm, 249, rfl⟩
abbrev main_call0_call0_v160 : Ref sig .tc := ⟨.hbm, 250, rfl⟩
abbrev main_call0_call0_v161 : Ref sig .tc := ⟨.hbm, 251, rfl⟩
abbrev main_call0_call0_v162 : Ref sig .tc := ⟨.hbm, 252, rfl⟩
abbrev main_call0_call0_v163 : Ref sig .tc := ⟨.hbm, 253, rfl⟩
abbrev main_call0_call0_c_42 : Ref sig .tc := ⟨.hbm, 254, rfl⟩
abbrev main_call0_call0_v164 : Ref sig .tc := ⟨.hbm, 255, rfl⟩
abbrev main_call0_call0_v165 : Ref sig .tc := ⟨.hbm, 256, rfl⟩
abbrev main_call0_call0_c_43 : Ref sig .tc := ⟨.hbm, 257, rfl⟩
abbrev main_call0_call0_v166 : Ref sig .tc := ⟨.hbm, 258, rfl⟩
abbrev main_call0_call0_v167 : Ref sig .tc := ⟨.hbm, 259, rfl⟩
abbrev main_call0_call0_v168 : Ref sig .tc := ⟨.hbm, 260, rfl⟩
abbrev main_call0_call0_v169 : Ref sig .tc := ⟨.hbm, 261, rfl⟩
abbrev main_call0_call0_v170 : Ref sig .tc := ⟨.hbm, 262, rfl⟩
abbrev main_call0_v27_0 : Ref sig .tc := ⟨.hbm, 263, rfl⟩
abbrev main_call0_call0_v172 : Ref sig .tc := ⟨.hbm, 264, rfl⟩
abbrev main_call0_call0_v173 : Ref sig .tc := ⟨.hbm, 265, rfl⟩
abbrev main_call0_call0_c_44 : Ref sig .tc := ⟨.hbm, 266, rfl⟩
abbrev main_call0_call0_v174 : Ref sig .tc := ⟨.hbm, 267, rfl⟩
abbrev main_call0_v27_1 : Ref sig .tc := ⟨.hbm, 268, rfl⟩
abbrev main_call0_v28 : Ref sig .tc := ⟨.hbm, 269, rfl⟩
abbrev main_call0_c_4 : Ref sig .tc := ⟨.hbm, 270, rfl⟩
abbrev main_call0_v29 : Ref sig .tc := ⟨.hbm, 271, rfl⟩
abbrev main_call0_v30 : Ref sig .tc := ⟨.hbm, 272, rfl⟩
abbrev main_call0_c_5 : Ref sig .tc := ⟨.hbm, 273, rfl⟩
abbrev main_call0_v31 : Ref sig .tc := ⟨.hbm, 274, rfl⟩
abbrev main_call0_v32 : Ref sig .tc := ⟨.hbm, 275, rfl⟩
abbrev main_call0_v33 : Ref sig .tc := ⟨.hbm, 276, rfl⟩
abbrev main_call0_cst : Ref sig .tc := ⟨.hbm, 277, rfl⟩
abbrev main_call0_v34 : Ref sig .tc := ⟨.hbm, 278, rfl⟩
abbrev main_call0_v35 : Ref sig .tc := ⟨.hbm, 279, rfl⟩
abbrev main_call0_v36 : Ref sig .tc := ⟨.hbm, 280, rfl⟩
abbrev main_call0_v37 : Ref sig .tc := ⟨.hbm, 281, rfl⟩
abbrev main_call0_v38 : Ref sig .tc := ⟨.hbm, 282, rfl⟩
abbrev main_call0_v39 : Ref sig .tc := ⟨.hbm, 283, rfl⟩
abbrev main_call0_v40 : Ref sig .tc := ⟨.hbm, 284, rfl⟩
abbrev main_call0_v41 : Ref sig .tc := ⟨.hbm, 285, rfl⟩
abbrev main_v7 : Ref sig .tc := ⟨.hbm, 286, rfl⟩
abbrev main_cst_3 : Ref sig .tc := ⟨.hbm, 287, rfl⟩
abbrev main_v8 : Ref sig .tc := ⟨.hbm, 288, rfl⟩
abbrev main_v9 : Ref sig .tc := ⟨.hbm, 289, rfl⟩
abbrev main_cst_4 : Ref sig .tc := ⟨.hbm, 290, rfl⟩
abbrev main_v10 : Ref sig .tc := ⟨.hbm, 291, rfl⟩
abbrev main_v11 : Ref sig .tc := ⟨.hbm, 292, rfl⟩
abbrev main_call1_v0 : Ref sig .tc := ⟨.hbm, 293, rfl⟩
abbrev main_call1_cst : Ref sig .tc := ⟨.hbm, 294, rfl⟩
abbrev main_call1_v1 : Ref sig .tc := ⟨.hbm, 295, rfl⟩
abbrev main_call1_v2 : Ref sig .tc := ⟨.hbm, 296, rfl⟩
abbrev main_v12 : Ref sig .tc := ⟨.hbm, 297, rfl⟩
abbrev main_v13 : Ref sig .tc := ⟨.hbm, 298, rfl⟩
abbrev main_v14 : Ref sig .tc := ⟨.hbm, 299, rfl⟩
abbrev main_v15 : Ref sig .tc := ⟨.hbm, 300, rfl⟩
abbrev main_v16 : Ref sig .tc := ⟨.hbm, 301, rfl⟩
abbrev main_v17 : Ref sig .tc := ⟨.hbm, 302, rfl⟩
abbrev main_v18 : Ref sig .tc := ⟨.hbm, 303, rfl⟩
abbrev main_cst_5 : Ref sig .tc := ⟨.hbm, 304, rfl⟩
abbrev main_v19 : Ref sig .tc := ⟨.hbm, 305, rfl⟩
abbrev main_v20 : Ref sig .tc := ⟨.hbm, 306, rfl⟩
abbrev main_v21 : Ref sig .tc := ⟨.hbm, 307, rfl⟩
abbrev main_v22 : Ref sig .tc := ⟨.hbm, 308, rfl⟩
abbrev main_v23 : Ref sig .tc := ⟨.hbm, 309, rfl⟩
abbrev main_cst_6 : Ref sig .tc := ⟨.hbm, 310, rfl⟩
abbrev main_v24 : Ref sig .tc := ⟨.hbm, 311, rfl⟩
abbrev main_v25 : Ref sig .tc := ⟨.hbm, 312, rfl⟩
abbrev main_v26 : Ref sig .tc := ⟨.hbm, 313, rfl⟩
abbrev main_v27 : Ref sig .tc := ⟨.hbm, 314, rfl⟩
abbrev main_v28 : Ref sig .tc := ⟨.hbm, 315, rfl⟩
abbrev main_cst_7 : Ref sig .tc := ⟨.hbm, 316, rfl⟩
abbrev main_v29 : Ref sig .tc := ⟨.hbm, 317, rfl⟩
abbrev main_cst_8 : Ref sig .tc := ⟨.hbm, 318, rfl⟩
abbrev main_v30 : Ref sig .tc := ⟨.hbm, 319, rfl⟩
abbrev main_v31 : Ref sig .tc := ⟨.hbm, 320, rfl⟩
abbrev main_cst_9 : Ref sig .tc := ⟨.hbm, 321, rfl⟩
abbrev main_v32 : Ref sig .tc := ⟨.hbm, 322, rfl⟩
abbrev main_v33 : Ref sig .tc := ⟨.hbm, 323, rfl⟩
abbrev main_cst_10 : Ref sig .tc := ⟨.hbm, 324, rfl⟩
abbrev main_v34 : Ref sig .tc := ⟨.hbm, 325, rfl⟩
abbrev main_cst_11 : Ref sig .tc := ⟨.hbm, 326, rfl⟩
abbrev main_v35 : Ref sig .tc := ⟨.hbm, 327, rfl⟩
abbrev main_v36 : Ref sig .tc := ⟨.hbm, 328, rfl⟩
abbrev main_v37 : Ref sig .tc := ⟨.hbm, 329, rfl⟩
abbrev main_cst_12 : Ref sig .tc := ⟨.hbm, 330, rfl⟩
abbrev main_v38 : Ref sig .tc := ⟨.hbm, 331, rfl⟩
abbrev main_cst_13 : Ref sig .tc := ⟨.hbm, 332, rfl⟩
abbrev main_v39 : Ref sig .tc := ⟨.hbm, 333, rfl⟩
abbrev main_v40 : Ref sig .tc := ⟨.hbm, 334, rfl⟩

abbrev nD : Nat := 1
abbrev τ : Topo := Topo.v7x

variable {F : FTy → Type} [FloatOps F]
-- ==== Proof.Net.lean ====
/-
  The planes the kernel sorts in, and what one compare-exchange of its sorting network does to a plane: the words of
  both programs (the printed kernel and the idealized one), stated once for every float interpretation.
-/
module

public import Idealize.ShloMosaic.Lib.Tactic
public import Idealize.ShloMosaic.Lib.KernelVsHost
public import Idealize.ShloMosaic.Lib.Memref
public import Idealize.ShloMosaic.Lib.Pipeline.Value

@[expose] public section

set_option maxRecDepth 16384

noncomputable section

namespace Cert.Proof.Net

open Idealize.ShloMosaic

variable {F : FTy → Type} [FloatOps F]

/-- A plane of 128 rows of 128 lanes; its two halves of 64 rows; a block holding one plane; the scratch of ten chains. -/
abbrev Pl : Shape := ⟨2, ![128, 128]⟩
/-- A half plane. -/
abbrev Hf : Shape := ⟨2, ![64, 128]⟩
/-- A plane under a unit axis. -/
abbrev Bk : Shape := ⟨3, ![1, 128, 128]⟩
/-- The scratch of the ten chains. -/
abbrev Sc : Shape := ⟨3, ![10, 192, 128]⟩
/-- A block of three coordinate planes of one cloud, one coordinate plane of it; the angles; one element. -/
abbrev Cl : Shape := ⟨4, ![1, 3, 64, 128]⟩
/-- A coordinate plane of a cloud. -/
abbrev Co : Shape := ⟨4, ![1, 1, 64, 128]⟩
/-- The directions, transposed. -/
abbrev An : Shape := ⟨2, ![3, 100]⟩
/-- One number, as an array of rank two. -/
abbrev O1 : Shape := ⟨2, ![1, 1]⟩

/-! ## Words -/

/-- Each element's number within its half: the lane times 64 plus the row modulo 64. -/
def idxv : IVec Pl 32 :=
  ori (shli (iota .tc Pl 32 [1] (by decide)) (broadcast Pl 6#32)) (andi (iota .tc Pl 32 [0] (by decide)) (broadcast Pl 63#32))

/-- Where the bits `k` of the element's number are clear. -/
def maskv (k : BitVec 32) : IVec Pl 1 :=
  cmpi .eq (andi idxv (broadcast Pl k)) (broadcast Pl 0#32)

/-- One where the bit `k` of the element's number is clear, minus one where it is set. -/
def sgnv (k : BitVec 32) : FVec F Pl .f32 :=
  select (maskv k) (broadcast Pl (Scalar.ofBits .f32 0x3F800000#32)) (broadcast Pl (Scalar.ofBits .f32 0xBF800000#32))

/-- A block viewed as a plane, and back. -/
abbrev plane (v : Vec F Bk .f32) : FVec F Pl .f32 := shapeCast Pl v (by decide)
/-- A plane under a unit axis. -/
abbrev block (v : FVec F Pl .f32) : FVec F Bk .f32 := shapeCast Bk v (by decide)

/-- A compare-exchange of the plane `w` with the plane above (`u`) and the plane below (`d`). -/
abbrev ce (k : BitVec 32) (w u d : FVec F Pl .f32) : FVec F Pl .f32 :=
  select (maskv k) (minimumf w u) (maximumf w d)

/-- The rectangle of chain `a`'s rows of the scratch, from row `r`. -/
abbrev rc (a : Fin 10) (r : Fin 65) : Rect Sc :=
  Rect.unit (s := Sc) ![a.val, r.val, 0] Bk.size (Fin.forall_fin_succ.mpr ⟨by show a.val + 1 ≤ 10; omega,
    Fin.forall_fin_two.mpr ⟨by show r.val + 128 ≤ 192; omega, by show 0 + 128 ≤ 128; decide⟩⟩)

/-- The rectangle of a cloud block's coordinate plane `k`. -/
abbrev rp (k : Fin 3) : Rect Cl :=
  Rect.unit (s := Cl) ![0, k.val, 0, 0] Co.size (Fin.forall_fin_succ.mpr ⟨by show 0 + 1 ≤ 1; decide,
    Fin.forall_fin_succ.mpr ⟨by show k.val + 1 ≤ 3; omega, Fin.forall_fin_two.mpr ⟨by show 0 + 64 ≤ 64; decide,
      by show 0 + 128 ≤ 128; decide⟩⟩⟩)

/-- The row offsets `32 + 2 ^ e` and `32 - 2 ^ e`. -/
def up (e : Fin 6) : Fin 65 := ⟨32 + 2 ^ e.val, by have : 2 ^ e.val ≤ 2 ^ 5 := Nat.pow_le_pow_right (by decide) (by omega); omega⟩
/-- The row the shifted plane starts at, downward. -/
def dn (e : Fin 6) : Fin 65 := ⟨32 - 2 ^ e.val, Nat.lt_of_le_of_lt (Nat.sub_le _ _) (by decide)⟩

/-- Bit `n` as a word. -/
abbrev bit (n : ℕ) : BitVec 32 := BitVec.ofNat 32 (2 ^ n)

/-- The element of a plane at a row and a lane. -/
def ix (r l : Fin 128) : Pl.Idx :=
  Fin.cons (α := fun b => Fin (Pl.size b)) r (Fin.cons (α := fun b : Fin 1 => Fin (Pl.size b.succ)) l fun b => b.elim0)

/-- A number below 128 with bit `n` flipped. -/
def flip (n : Fin 7) (r : Fin 128) : Fin 128 :=
  ⟨r.val ^^^ 2 ^ n.val, Nat.xor_lt_two_pow (n := 7) r.isLt (Nat.pow_lt_pow_right (by decide) n.isLt)⟩

/-- An element's partner along rows at distance `2 ^ e`: bit `e` of the row flipped. -/
def rowx (e : Fin 6) (p : Pl.Idx) : Pl.Idx := ix (flip e.castSucc (p 0)) (p 1)

/-- An element's partner along lanes at distance `2 ^ k`: bit `k` of the lane flipped. -/
def lanex (k : Fin 7) (p : Pl.Idx) : Pl.Idx := ix (p 0) (flip k (p 1))

/-- The compare-exchange of a plane with itself along rows, and along lanes. -/
def ceRow (e : Fin 6) (w : FVec F Pl .f32) : FVec F Pl .f32 :=
  ce (bit e.val) w (fun p => w (rowx e p)) (fun p => w (rowx e p))
/-- A compare-exchange along the lanes. -/
def ceLane (k : Fin 7) (w : FVec F Pl .f32) : FVec F Pl .f32 :=
  ce (bit (k.val + 6)) w (fun p => w (lanex k p)) (fun p => w (lanex k p))

/-- Two halves make a plane. -/
theorem cat_ok : Shape.Concatenates [Hf, Hf] Pl 0 := by decide

/-- A sum of three coordinate planes by three weights. -/
abbrev dot3 (a1 a2 a3 : Elt F .f32) (x y z : Vec F Co .f32) : FVec F Hf .f32 :=
  addf (addf (mulf (shapeCast Hf x (by decide)) (broadcast Hf a1)) (mulf (shapeCast Hf y (by decide)) (broadcast Hf a2)))
    (mulf (shapeCast Hf z (by decide)) (broadcast Hf a3))

/-- The two clouds' projections one above the other, by the signs of bit one. -/
abbrev projw (a1 a2 a3 : Elt F .f32) (x y z x' y' z' : Vec F Co .f32) : FVec F Pl .f32 :=
  mulf (concatenate Pl 0 [⟨Hf, dot3 a1 a2 a3 x y z⟩, ⟨Hf, dot3 a1 a2 a3 x' y' z'⟩] (cat_ok : Shape.Concatenates [Hf, Hf] Pl 0)) (sgnv 2#32)

/-! ## Steps -/

/-- A step of the body on the ten chains: the projection of chain `a`; a compare-exchange of chain `a` along rows at
    distance `2 ^ e`, alone, or followed by a product with the signs of bits `s` and `s + 1`, or of bit `s`; a
    compare-exchange along lanes at distance `2 ^ k`. -/
inductive Step
  | proj (a : Fin 10)
  | row (a : Fin 10) (e : Fin 6)
  | rowc (a : Fin 10) (s : ℕ)
  | rowl (a : Fin 10) (s : ℕ)
  | lane (a : Fin 10) (k : Fin 7)

/-- What a step does to the ten planes, the projections given. -/
def Step.act (P : Fin 10 → FVec F Pl .f32) : Step → (Fin 10 → FVec F Pl .f32) → Fin 10 → FVec F Pl .f32
  | .proj a, W => Function.update W a (P a)
  | .row a e, W => Function.update W a (ceRow e (W a))
  | .rowc a s, W => Function.update W a (mulf (ceRow 0 (W a)) (mulf (sgnv (bit s)) (sgnv (bit (s + 1)))))
  | .rowl a s, W => Function.update W a (mulf (ceRow 0 (W a)) (sgnv (bit s)))
  | .lane a k, W => Function.update W a (ceLane k (W a))

/-! ## What the loads of a scratch holding the ten planes read -/

section Bits

/-- Two bits of a word are tested equal to zero exactly where the word's bit is clear. -/
theorem cmpi_bit (x : BitVec 32) (n : ℕ) (hn : n < 32) : IntOp.cmpi .eq (x &&& bit n) 0#32 = 1#1 ↔ x.getLsbD n = false := by
  have hb : bit n = BitVec.twoPow 32 n := by
    apply BitVec.eq_of_toNat_eq
    simp [bit, BitVec.toNat_twoPow]
  rw [hb, BitVec.and_twoPow]
  unfold IntOp.cmpi
  cases h : x.getLsbD n
  · simp
  · have : BitVec.twoPow 32 n ≠ 0#32 := by
      intro h0
      have := congrArg (fun y => BitVec.getLsbD y n) h0
      simp [BitVec.getLsbD_twoPow, hn] at this
    simp [this, beq_eq_false_iff_ne.mpr this]

/-- The bits of an element's number: its row's first six, then its lane's. -/
theorem idxv_toNat (p : Pl.Idx) : (idxv p).toNat = 64 * (p 1).val + (p 0).val % 64 := by
  have h0 : idxv p = (BitVec.ofNat 32 (p 1).val <<< (6#32 : BitVec 32)) ||| (BitVec.ofNat 32 (p 0).val &&& 63#32) := by
    unfold idxv
    show IntOp.ori (IntOp.shli _ _ _) (IntOp.andi _ _) = _
    simp [IntOp.ori, IntOp.andi, IntOp.shli, iota, broadcast]
  have h1 : (p 1).val < 128 := (p 1).isLt
  have h2 : (p 0).val < 128 := (p 0).isLt
  rw [h0]
  rw [BitVec.toNat_or, BitVec.toNat_and, BitVec.shiftLeft_eq', BitVec.toNat_shiftLeft, BitVec.toNat_ofNat, BitVec.toNat_ofNat, BitVec.toNat_ofNat,
    Nat.mod_eq_of_lt (show (p 1).val < 2 ^ 32 by omega), Nat.mod_eq_of_lt (show (p 0).val < 2 ^ 32 by omega)]
  show ((p 1).val <<< 6) % 2 ^ 32 ||| ((p 0).val &&& 63) = _
  rw [Nat.shiftLeft_eq, Nat.mod_eq_of_lt (by omega), show (63 : ℕ) = 2 ^ 6 - 1 from rfl, Nat.and_two_pow_sub_one_eq_mod,
    Nat.mul_comm, ← Nat.two_pow_add_eq_or_of_lt (Nat.mod_lt _ (by decide))]

/-- The low bits of an element's number are its row's. -/
theorem idxv_row (p : Pl.Idx) (n : ℕ) (hn : n < 6) : (idxv p).getLsbD n = (p 0).val.testBit n := by
  show (idxv p).toNat.testBit n = _
  rw [idxv_toNat, show (64 : ℕ) = 2 ^ 6 from rfl, Nat.testBit_two_pow_mul_add _ (Nat.mod_lt _ (by decide)), if_pos hn,
    Nat.testBit_mod_two_pow]
  simp [hn]

/-- The high bits are its lane's. -/
theorem idxv_lane (p : Pl.Idx) (n : ℕ) : (idxv p).getLsbD (n + 6) = (p 1).val.testBit n := by
  show (idxv p).toNat.testBit (n + 6) = _
  rw [idxv_toNat, show (64 : ℕ) = 2 ^ 6 from rfl, Nat.testBit_two_pow_mul_add _ (Nat.mod_lt _ (by decide)), if_neg (by omega),
    Nat.add_sub_cancel]

/-- A mask on a row bit holds where the bit is clear. -/
theorem maskv_row (p : Pl.Idx) (n : ℕ) (hn : n < 6) : maskv (bit n) p = 1#1 ↔ (p 0).val.testBit n = false := by
  rw [← idxv_row p n hn, ← cmpi_bit _ n (by omega)]; rfl

/-- A mask on a lane bit holds where the bit is clear. -/
theorem maskv_lane (p : Pl.Idx) (n : ℕ) (hn : n < 26) : maskv (bit (n + 6)) p = 1#1 ↔ (p 1).val.testBit n = false := by
  rw [← idxv_lane p n, ← cmpi_bit _ (n + 6) (by omega)]; rfl

/-- Flipping a clear bit adds its weight. -/
theorem flip_clear : ∀ (n : Fin 7) (r : Fin 128), r.val.testBit n.val = false → (flip n r).val = r.val + 2 ^ n.val := by decide
/-- Flipping a set bit takes its weight away. -/
theorem flip_set : ∀ (n : Fin 7) (r : Fin 128), r.val.testBit n.val = true → (flip n r).val + 2 ^ n.val = r.val := by decide

end Bits

/-- The scratch holds the ten planes, each in its rows from 32; the rows around them hold anything. -/
def Win (W : Fin 10 → FVec F Pl .f32) (X : Sc.Idx → F .f32) : Prop :=
  ∀ a, plane (fun j => X ((rc a 32).toLoadRect.idx j)) = W a

/-- A plane's element in the block holding it. -/
def bx (p : Pl.Idx) : Bk.Idx := Fin.cons (α := fun b => Fin (Bk.size b)) (⟨0, Nat.one_pos⟩ : Fin 1) p

/-- A plane read without its unit axis. -/
theorem plane_apply (v : Vec F Bk .f32) (p : Pl.Idx) : plane v p = v (bx p) :=
  shapeCast_dropUnit_apply (n := 2) ![128, 128] v _ p

/-- Adding the unit axis and taking it away again. -/
theorem plane_block (v : FVec F Pl .f32) : plane (block v) = v := by
  funext p
  rw [plane_apply]
  exact shapeCast_addUnit_apply (n := 2) ![128, 128] v _ _

/-- Where chain `a`'s block read from row `r` finds element `p`: the row moved by `r`. -/
theorem rc_idx_congr (a : Fin 10) (r r' : Fin 65) (p p' : Pl.Idx) (h0 : r.val + (p 0).val = r'.val + (p' 0).val)
    (h1 : (p 1).val = (p' 1).val) :
    (rc a r).toLoadRect.idx (bx p)
      = (rc a r').toLoadRect.idx (bx p') := by
  funext b
  apply Fin.ext
  fin_cases b
  · rfl
  · show r.val + 1 * (p 0).val = r'.val + 1 * (p' 0).val
    omega
  · show 0 + 1 * (p 1).val = 0 + 1 * (p' 1).val
    omega

/-- A scalar selection whose condition is equivalent to a proposition. -/
theorem select_iff {α : Type} {c : BitVec 1} {P : Prop} [Decidable P] (h : c = 1#1 ↔ P) (u v : α) :
    Scalar.select c u v = if P then u else v := by
  show (if c = 1#1 then u else v) = _
  by_cases hp : P
  · rw [if_pos hp, if_pos (h.mpr hp)]
  · rw [if_neg hp, if_neg (mt h.mp hp)]

/-- A compare-exchange along rows, from the three loads. -/
theorem Win.ceRow {W : Fin 10 → FVec F Pl .f32} {X : Sc.Idx → F .f32} (h : Win W X) (a : Fin 10) (e : Fin 6) :
    ce (bit e.val) (plane (fun j => X ((rc a 32).toLoadRect.idx j))) (plane (fun j => X ((rc a (up e)).toLoadRect.idx j)))
      (plane (fun j => X ((rc a (dn e)).toLoadRect.idx j))) = Net.ceRow e (W a) := by
  have hw := h a
  funext p
  have hb := maskv_row p e.val e.isLt
  have hsel : ∀ u v : F .f32, Scalar.select (maskv (bit e.val) p) u v = if (p 0).val.testBit e.val = false then u else v := by
    intro u v
    exact select_iff hb u v
  show Scalar.select (maskv (bit e.val) p) (FloatOps.minimumf _ _) (FloatOps.maximumf _ _)
    = Scalar.select (maskv (bit e.val) p) (FloatOps.minimumf _ _) (FloatOps.maximumf _ _)
  rw [hsel, hsel, ← hw]
  rcases hbit : (p 0).val.testBit e.val
  · rw [if_pos rfl, if_pos rfl]
    refine congrArg (FloatOps.minimumf _) ?_
    show _ = plane _ (rowx e p)
    rw [plane_apply, plane_apply]
    have := flip_clear e.castSucc (p 0) hbit
    show X _ = X _
    rw [rc_idx_congr a (up e) 32 p (rowx e p) (by
      show 32 + 2 ^ e.val + (p 0).val = 32 + (flip e.castSucc (p 0)).val
      rw [this]; show _ = 32 + ((p 0).val + 2 ^ e.val); omega) rfl]
  · rw [if_neg (by decide), if_neg (by decide)]
    refine congrArg (FloatOps.maximumf _) ?_
    show _ = plane _ (rowx e p)
    rw [plane_apply, plane_apply]
    have := flip_set e.castSucc (p 0) hbit
    show X _ = X _
    rw [rc_idx_congr a (dn e) 32 p (rowx e p) (by
      show 32 - 2 ^ e.val + (p 0).val = 32 + (flip e.castSucc (p 0)).val
      have h32 : 2 ^ e.val ≤ 2 ^ 5 := Nat.pow_le_pow_right (by decide) (by omega)
      change (flip e.castSucc (p 0)).val + 2 ^ e.val = _ at this
      omega) rfl]

/-- A plane rotated along lanes. -/
abbrev rot (k : BitVec 32) (w : FVec F Pl .f32) : FVec F Pl .f32 := dynamicRotate 1 k none w (by decide)

/-- A compare-exchange along lanes, from the plane's two rotations. -/
theorem ceLane_rot (k : Fin 7) (w : FVec F Pl .f32) :
    ce (bit (k.val + 6)) w (rot (BitVec.ofNat 32 (128 - 2 ^ k.val)) w) (rot (bit k.val) w) = ceLane k w := by
  funext p
  have hb := maskv_lane p k.val (by omega)
  have hsel : ∀ u v : F .f32, Scalar.select (maskv (bit (k.val + 6)) p) u v = if (p 1).val.testBit k.val = false then u else v := by
    intro u v
    exact select_iff hb u v
  have hk : 2 ^ k.val ≤ 2 ^ 6 := Nat.pow_le_pow_right (by decide) (by omega)
  have hk0 : 0 < 2 ^ k.val := Nat.pow_pos (by decide)
  have hrot : ∀ c : ℕ, c < 2 ^ 32 → ((p 1).val + 128 - c % 128) % 128 = (flip k (p 1)).val → rot (BitVec.ofNat 32 c) w p = w (lanex k p) := by
    intro c hc hf
    refine dynamicRotate_apply (s := Pl) 1 _ w _ p _ fun b => ?_
    fin_cases b
    · rfl
    · show (flip k (p 1)).val = ((p 1).val + 128 - (BitVec.ofNat 32 c).toNat % 128) % 128
      rw [BitVec.toNat_ofNat, Nat.mod_eq_of_lt hc]; exact hf.symm
  have hp := (p 1).isLt
  change (p 1).val < 128 at hp
  have hfl := (flip k (p 1)).isLt
  show Scalar.select (maskv (bit (k.val + 6)) p) (FloatOps.minimumf _ _) (FloatOps.maximumf _ _)
    = Scalar.select (maskv (bit (k.val + 6)) p) (FloatOps.minimumf _ _) (FloatOps.maximumf _ _)
  rw [hsel, hsel]
  rcases hbit : (p 1).val.testBit k.val
  · rw [if_pos rfl, if_pos rfl, hrot (128 - 2 ^ k.val) (by omega)]
    have := flip_clear k (p 1) hbit
    rw [this] at hfl ⊢
    rw [Nat.mod_eq_of_lt (show 128 - 2 ^ k.val < 128 by omega)]
    omega
  · rw [if_neg (by decide), if_neg (by decide), hrot (2 ^ k.val) (by omega)]
    have := flip_set k (p 1) hbit
    rw [Nat.mod_eq_of_lt (show 2 ^ k.val < 128 by omega)]
    omega

/-- Storing a plane into chain `a`'s rows changes that chain's plane only. -/
theorem Win.store {W : Fin 10 → FVec F Pl .f32} {X : Sc.Idx → F .f32} (h : Win W X) (a : Fin 10) (v : FVec F Pl .f32) :
    Win (Function.update W a v) ((rc a 32).overlay X (block v)) := by
  intro b
  by_cases hb : b = a
  · subst hb
    rw [Function.update_self]
    refine Eq.trans ?_ (plane_block v)
    congr 1
    funext j
    exact Rect.overlay_emb (rc b 32) X (block v) j
  · rw [Function.update_of_ne hb, ← h b]
    congr 1
    funext j
    refine Rect.overlay_of_not_mem (rc a 32) X (block v) fun hm => hb ?_
    have := Rect.mem_set_unit.mp hm 0
    have hj : (j 0).val < 1 := (j 0).isLt
    have h2 : a.val ≤ b.val + 1 * (j 0).val ∧ b.val + 1 * (j 0).val < a.val + 1 := this
    exact Fin.ext (by omega)

/-- A whole scratch holds the planes read off it. -/
theorem Win.self (X : Sc.Idx → F .f32) : Win (fun a => plane (fun j => X ((rc a 32).toLoadRect.idx j))) X := fun _ => rfl

end Cert.Proof.Net

end
-- ==== Proof.Steps.lean ====
/-
  The body's steps in order: the projections, then the passes of the sorting network, each on the ten chains one after
  the other; cut where the printed body's windows are cut.
-/
module

public import proofs.«01_k».proof.Proof.Net

@[expose] public section

namespace Cert.Proof.Net

/-- A pass: one step on each of the ten chains, before the steps `L`. -/
def ten (f : Fin 10 → Step) (L : List Step) : List Step :=
  f 0 :: f 1 :: f 2 :: f 3 :: f 4 :: f 5 :: f 6 :: f 7 :: f 8 :: f 9 :: L

/-- A pass's step on chain `a`. -/
inductive Pass
  | proj
  | row (e : Fin 6)
  | rowc (s : ℕ)
  | rowl (s : ℕ)
  | lane (k : Fin 7)

/-- A pass on one of the ten planes, as the body does it. -/
def Pass.on : Pass → Fin 10 → Step
  | .proj, a => .proj a
  | .row e, a => .row a e
  | .rowc s, a => .rowc a s
  | .rowl s, a => .rowl a s
  | .lane k, a => .lane a k

/-- The passes, in order. -/
def passes : List Pass :=
  [.proj,
   .rowc 1,
   .row 1, .rowc 2,
   .row 2, .row 1, .rowc 3,
   .row 3, .row 2, .row 1, .rowc 4,
   .row 4, .row 3, .row 2, .row 1, .rowc 5,
   .row 5, .row 4, .row 3, .row 2, .row 1, .rowc 6,
   .lane 0, .row 5, .row 4, .row 3, .row 2, .row 1, .rowc 7,
   .lane 1, .lane 0, .row 5, .row 4, .row 3, .row 2, .row 1, .rowc 8,
   .lane 2, .lane 1, .lane 0, .row 5, .row 4, .row 3, .row 2, .row 1, .rowc 9,
   .lane 3, .lane 2, .lane 1, .lane 0, .row 5, .row 4, .row 3, .row 2, .row 1, .rowc 10,
   .lane 4, .lane 3, .lane 2, .lane 1, .lane 0, .row 5, .row 4, .row 3, .row 2, .row 1, .rowc 11,
   .lane 5, .lane 4, .lane 3, .lane 2, .lane 1, .lane 0, .row 5, .row 4, .row 3, .row 2, .row 1, .rowl 12,
   .lane 6, .lane 5, .lane 4, .lane 3, .lane 2, .lane 1, .lane 0, .row 5, .row 4, .row 3, .row 2, .row 1, .row 0]

/-- The steps, in order. -/
def steps : List Step := passes.foldr (fun p L => ten p.on L) []

/-- The steps from the 0th up to the 111th, before the steps `L`. -/
def seg0 (L : List Step) : List Step :=
  ten (Pass.on (.proj)) <| ten (Pass.on (.rowc 1)) <| ten (Pass.on (.row 1)) <| ten (Pass.on (.rowc 2)) <|
  ten (Pass.on (.row 2)) <| ten (Pass.on (.row 1)) <| ten (Pass.on (.rowc 3)) <| ten (Pass.on (.row 3)) <|
  ten (Pass.on (.row 2)) <| ten (Pass.on (.row 1)) <| ten (Pass.on (.rowc 4)) <| List.cons (.row 0 4) <| L

/-- The steps from the 111th up to the 252th, before the steps `L`. -/
def seg1 (L : List Step) : List Step :=
  List.cons (.row 1 4) <| List.cons (.row 2 4) <| List.cons (.row 3 4) <| List.cons (.row 4 4) <| List.cons (.row 5 4) <| List.cons (.row 6 4) <| List.cons (.row 7 4) <|
  List.cons (.row 8 4) <| List.cons (.row 9 4) <| ten (Pass.on (.row 3)) <| ten (Pass.on (.row 2)) <| ten (Pass.on (.row 1)) <|
  ten (Pass.on (.rowc 5)) <| ten (Pass.on (.row 5)) <| ten (Pass.on (.row 4)) <| ten (Pass.on (.row 3)) <|
  ten (Pass.on (.row 2)) <| ten (Pass.on (.row 1)) <| ten (Pass.on (.rowc 6)) <| ten (Pass.on (.lane 0)) <|
  ten (Pass.on (.row 5)) <| ten (Pass.on (.row 4)) <| List.cons (.row 0 3) <| List.cons (.row 1 3) <| L

/-- The steps from the 252th up to the 401th, before the steps `L`. -/
def seg2 (L : List Step) : List Step :=
  List.cons (.row 2 3) <| List.cons (.row 3 3) <| List.cons (.row 4 3) <| List.cons (.row 5 3) <| List.cons (.row 6 3) <| List.cons (.row 7 3) <| List.cons (.row 8 3) <|
  List.cons (.row 9 3) <| ten (Pass.on (.row 2)) <| ten (Pass.on (.row 1)) <| ten (Pass.on (.rowc 7)) <|
  ten (Pass.on (.lane 1)) <| ten (Pass.on (.lane 0)) <| ten (Pass.on (.row 5)) <| ten (Pass.on (.row 4)) <|
  ten (Pass.on (.row 3)) <| ten (Pass.on (.row 2)) <| ten (Pass.on (.row 1)) <| ten (Pass.on (.rowc 8)) <|
  ten (Pass.on (.lane 2)) <| ten (Pass.on (.lane 1)) <| ten (Pass.on (.lane 0)) <| List.cons (.row 0 5) <| L

/-- The steps from the 401th up to the 550th, before the steps `L`. -/
def seg3 (L : List Step) : List Step :=
  List.cons (.row 1 5) <| List.cons (.row 2 5) <| List.cons (.row 3 5) <| List.cons (.row 4 5) <| List.cons (.row 5 5) <| List.cons (.row 6 5) <| List.cons (.row 7 5) <|
  List.cons (.row 8 5) <| List.cons (.row 9 5) <| ten (Pass.on (.row 4)) <| ten (Pass.on (.row 3)) <| ten (Pass.on (.row 2)) <|
  ten (Pass.on (.row 1)) <| ten (Pass.on (.rowc 9)) <| ten (Pass.on (.lane 3)) <| ten (Pass.on (.lane 2)) <|
  ten (Pass.on (.lane 1)) <| ten (Pass.on (.lane 0)) <| ten (Pass.on (.row 5)) <| ten (Pass.on (.row 4)) <|
  ten (Pass.on (.row 3)) <| ten (Pass.on (.row 2)) <| ten (Pass.on (.row 1)) <| L

/-- The steps from the 550th up to the 709th, before the steps `L`. -/
def seg4 (L : List Step) : List Step :=
  ten (Pass.on (.rowc 10)) <| ten (Pass.on (.lane 4)) <| ten (Pass.on (.lane 3)) <| ten (Pass.on (.lane 2)) <|
  ten (Pass.on (.lane 1)) <| ten (Pass.on (.lane 0)) <| ten (Pass.on (.row 5)) <| ten (Pass.on (.row 4)) <|
  ten (Pass.on (.row 3)) <| ten (Pass.on (.row 2)) <| ten (Pass.on (.row 1)) <| ten (Pass.on (.rowc 11)) <|
  ten (Pass.on (.lane 5)) <| ten (Pass.on (.lane 4)) <| ten (Pass.on (.lane 3)) <| List.cons (.lane 0 2) <| List.cons (.lane 1 2) <|
  List.cons (.lane 2 2) <| List.cons (.lane 3 2) <| List.cons (.lane 4 2) <| List.cons (.lane 5 2) <| List.cons (.lane 6 2) <| List.cons (.lane 7 2) <|
  List.cons (.lane 8 2) <| L

/-- The steps from the 709th up to the 870th, before the steps `L`. -/
def seg5 (L : List Step) : List Step :=
  List.cons (.lane 9 2) <| ten (Pass.on (.lane 1)) <| ten (Pass.on (.lane 0)) <| ten (Pass.on (.row 5)) <|
  ten (Pass.on (.row 4)) <| ten (Pass.on (.row 3)) <| ten (Pass.on (.row 2)) <| ten (Pass.on (.row 1)) <|
  ten (Pass.on (.rowl 12)) <| ten (Pass.on (.lane 6)) <| ten (Pass.on (.lane 5)) <| ten (Pass.on (.lane 4)) <|
  ten (Pass.on (.lane 3)) <| ten (Pass.on (.lane 2)) <| ten (Pass.on (.lane 1)) <| ten (Pass.on (.lane 0)) <|
  ten (Pass.on (.row 5)) <| L

/-- The steps from the 870th up to the 920th, before the steps `L`. -/
def seg6 (L : List Step) : List Step :=
  ten (Pass.on (.row 4)) <| ten (Pass.on (.row 3)) <| ten (Pass.on (.row 2)) <| ten (Pass.on (.row 1)) <|
  ten (Pass.on (.row 0)) <| L

/-- The pieces are the steps. -/
theorem segs : seg0 (seg1 (seg2 (seg3 (seg4 (seg5 (seg6 [])))))) = steps := rfl

end Cert.Proof.Net
-- ==== Proof.Dist.lean ====
/-
  The distance the kernel takes between the halves of a plane, and what one grid point makes of its accumulators.
-/
module

public import proofs.«01_k».proof.Proof.Steps

@[expose] public section

set_option maxRecDepth 16384

noncomputable section

namespace Cert.Proof.Net

open Idealize.ShloMosaic

variable {F : FTy → Type} [FloatOps F]

/-- A half plane under a unit axis. -/
abbrev Hb : Shape := ⟨3, ![1, 64, 128]⟩
/-- One number, as an array. -/
abbrev U1 : Shape := ⟨1, ![1]⟩
/-- One number, as an array of rank three. -/
abbrev U3 : Shape := ⟨3, ![1, 1, 1]⟩
/-- Two numbers, as an array. -/
abbrev U2 : Shape := ⟨1, ![2]⟩

/-- The sum of the absolute differences of a plane's two halves. -/
def dist (w : FVec F Pl .f32) : F .f32 :=
  extractAt ![0, 0, 0] (shapeCast U3 (multiReduction .add [1, 2] U1 (shapeCast Hb (absf (subf
    (extractStridedSlice Hf ![0, 0] w (by decide : Pl.Slices ![0, 0] Hf)) (extractStridedSlice Hf ![64, 0] w (by decide : Pl.Slices ![64, 0] Hf))))
    (by decide : Hf.ShapeCasts Hb)) 0x00000000#32 (by decide : Hb.Reduces [1, 2] U1) (.inl rfl) rfl) (by decide : U1.ShapeCasts U3))
    (by decide : ∀ a, (![0, 0, 0] : Fin 3 → Nat) a < U3.size a)

/-- The ten chains' distances, added up from zero. -/
def total (W : Fin 10 → FVec F Pl .f32) : F .f32 :=
  Scalar.addf (Scalar.addf (Scalar.addf (Scalar.addf (Scalar.addf (Scalar.addf (Scalar.addf (Scalar.addf (Scalar.addf (Scalar.addf
    (Scalar.ofBits .f32 0x00000000#32) (dist (W 0))) (dist (W 1))) (dist (W 2))) (dist (W 3))) (dist (W 4))) (dist (W 5)))
    (dist (W 6))) (dist (W 7))) (dist (W 8))) (dist (W 9))

/-- Two numbers as an array. -/
def pair {α : Type} (u v : α) : U2.Idx → α := fun j => if (j 0).val = 0 then u else v

/-- Writing the first of two numbers. -/
theorem pair_overlay0 {α : Type} (u v w : α) (h : ∀ a, (![0] : Fin 1 → ℕ) a + U1.size a ≤ U2.size a) :
    (Rect.unit (s := U2) ![0] U1.size h).overlay (pair u v) (fun _ => w) = pair w v := by
  funext j
  by_cases hj : j ∈ (Rect.unit (s := U2) ![0] U1.size h).set
  · obtain ⟨x, -, rfl⟩ := Finset.mem_map.mp (by rwa [← Rect.map_emb_univ] at hj)
    have hx : (x 0).val < 1 := (x 0).isLt
    rw [Rect.overlay_emb]
    exact (if_pos (show 0 + 1 * (x 0).val = 0 by omega)).symm
  · rw [Rect.overlay_of_not_mem _ _ _ hj]
    have h0 : (j 0).val ≠ 0 := fun h0 => hj (Rect.mem_set_unit.mpr fun a => by
      fin_cases a
      show 0 ≤ (j 0).val ∧ (j 0).val < 0 + 1
      omega)
    show (if _ then _ else _) = if _ then _ else _
    rw [if_neg h0, if_neg h0]

/-- Writing the second of two numbers. -/
theorem pair_overlay1 {α : Type} (u v w : α) (h : ∀ a, (![1] : Fin 1 → ℕ) a + U1.size a ≤ U2.size a) :
    (Rect.unit (s := U2) ![1] U1.size h).overlay (pair u v) (fun _ => w) = pair u w := by
  funext j
  have hj2 : (j 0).val < 2 := (j 0).isLt
  by_cases hj : j ∈ (Rect.unit (s := U2) ![1] U1.size h).set
  · obtain ⟨x, -, rfl⟩ := Finset.mem_map.mp (by rwa [← Rect.map_emb_univ] at hj)
    rw [Rect.overlay_emb]
    exact (if_neg (show 1 + 1 * (x 0).val ≠ 0 by omega)).symm
  · rw [Rect.overlay_of_not_mem _ _ _ hj]
    have h0 : (j 0).val = 0 := by
      by_contra h0
      refine hj (Rect.mem_set_unit.mpr fun a => ?_)
      fin_cases a
      show 1 ≤ (j 0).val ∧ (j 0).val < 1 + 1
      omega
    show (if _ then _ else _) = if _ then _ else _
    rw [if_pos h0, if_pos h0]

/-- The place of number `n` in an array of two. -/
def i2 (n : Fin 2) : U2.Idx := fun a => Fin.cast (by fin_cases a; rfl) n

/-- Every array of two is the pair of its elements. -/
theorem pair_self {α : Type} (X : U2.Idx → α) : X = pair (X (i2 0)) (X (i2 1)) := by
  funext j
  have hj2 : (j 0).val < 2 := (j 0).isLt
  unfold pair
  split
  · rename_i h
    exact congrArg X (by funext a; fin_cases a; exact Fin.ext h)
  · rename_i h
    exact congrArg X (by funext a; fin_cases a; exact Fin.ext (show (j 0).val = 1 by omega))

/-- An array of one element, overlaid. -/
theorem one_overlay {α : Type} (X : U1.Idx → α) (w : α) (h : ∀ a, (![0] : Fin 1 → ℕ) a + U1.size a ≤ U1.size a) :
    (Rect.unit (s := U1) ![0] U1.size h).overlay X (fun _ => w) = fun _ => w := by
  funext j
  have hj : j ∈ (Rect.unit (s := U1) ![0] U1.size h).set := Rect.mem_set_unit.mpr fun a => by
    fin_cases a
    have : (j 0).val < 1 := (j 0).isLt
    show 0 ≤ (j 0).val ∧ (j 0).val < 0 + 1
    omega
  obtain ⟨x, -, rfl⟩ := Finset.mem_map.mp (by rwa [← Rect.map_emb_univ] at hj)
  rw [Rect.overlay_emb]

/-- Whether a word's number equals `n`, as the body computes it. -/
abbrev isw (x n : BitVec 32) : Prop := Scalar.cmpi .ne (Scalar.extui (Scalar.cmpi .eq x n) : BitVec 32) 0#32 = 1#1
/-- Two words equal two words, as the body tests it. -/
abbrev isw2 (x n y k : BitVec 32) : Prop :=
  Scalar.cmpi .ne (Scalar.extui (Scalar.andi (Scalar.cmpi .eq x n) (Scalar.cmpi .eq y k)) : BitVec 32) 0#32 = 1#1

end Cert.Proof.Net

end
-- ==== Proof.Chain.lean ====
/-
  What the body's steps make of one chain: the projection, then each pass on the plane the pass before it left.
-/
module

public import proofs.«01_k».proof.Proof.Dist

@[expose] public section

set_option maxRecDepth 16384

noncomputable section

namespace Cert.Proof.Net

open Idealize.ShloMosaic

variable {F : FTy → Type} [FloatOps F]

/-- What a pass makes of a chain's plane `w`, its projection being `q`. -/
def Pass.fn (q : FVec F Pl .f32) : Pass → FVec F Pl .f32 → FVec F Pl .f32
  | .proj, _ => q
  | .row e, w => ceRow e w
  | .rowc s, w => mulf (ceRow 0 w) (mulf (sgnv (bit s)) (sgnv (bit (s + 1))))
  | .rowl s, w => mulf (ceRow 0 w) (sgnv (bit s))
  | .lane k, w => ceLane k w

/-- A pass's step replaces its chain's plane. -/
theorem Pass.act_on (P W : Fin 10 → FVec F Pl .f32) (p : Pass) (a : Fin 10) :
    (p.on a).act P W = Function.update W a (p.fn (P a) (W a)) := by
  cases p <;> rfl

/-- A pass on the ten chains one after the other replaces each plane. -/
theorem foldl_ten (P W : Fin 10 → FVec F Pl .f32) (p : Pass) (L : List Step) :
    (ten p.on L).foldl (fun W s => s.act P W) W = L.foldl (fun W s => s.act P W) (fun a => p.fn (P a) (W a)) := by
  unfold ten
  simp only [List.foldl_cons, Pass.act_on]
  congr 1
  funext a
  fin_cases a <;> rfl

/-- The passes, run on all ten planes, run on each. -/
theorem foldl_passes (P : Fin 10 → FVec F Pl .f32) (ps : List Pass) (W : Fin 10 → FVec F Pl .f32) :
    (ps.foldr (fun p L => ten p.on L) []).foldl (fun W s => s.act P W) W
      = fun a => ps.foldl (fun w p => p.fn (P a) w) (W a) := by
  induction ps generalizing W with
  | nil => rfl
  | cons p ps ih => rw [List.foldr_cons, foldl_ten, ih]; rfl

/-- The plane the passes after the projection make of the projection `q`. -/
def chain (q : FVec F Pl .f32) : FVec F Pl .f32 := passes.tail.foldl (fun w p => p.fn q w) q

/-- The steps leave every chain's plane sorted by the passes, whatever the planes before. -/
theorem foldl_steps (P W : Fin 10 → FVec F Pl .f32) :
    steps.foldl (fun W s => s.act P W) W = fun a => chain (P a) := by
  unfold steps
  rw [foldl_passes]
  rfl

end Cert.Proof.Net

end
-- ==== Proof.P.Body0.lean ====
/-
  The kernel's body, its window 1 of 7 (steps 0 to 111 of the 920).
-/
module

public import proofs.«01_k».proof.Proof.P.Common
public import proofs.«01_k».proof.Proof.Steps

@[expose] public section

set_option maxRecDepth 16384
set_option maxHeartbeats 8000000

noncomputable section

namespace Cert.Proof.P.Env

open Cert.Kernel Cert.Kernel.Gen Cert.Proof.Net
open Idealize.ShloMosaic Idealize.ShloMosaic.TcCoe
open Idealize.SL.Sem

variable {F : FTy → Type} [FloatOps F] (E : Env F)

/-- The body's window `k0_part385` performs the steps of `seg0`. -/
theorem run0 (L : List Step) (K : _ → Pg F) (h : E.Run L fun X => K ⟨BitVec.ofNat 32 (E.i 0).val, BitVec.ofNat 32 (E.i 1).val, idxv, maskv 16#32, rd X 1 32, rd X 1 16, minimumf (rd X 1 32) (rd X 1 48)⟩) :
    E.Run (seg0 L) fun X => k0_part385 E.i E.arg2 E.h2 E.arg3 E.h3 E.arg4 E.h4 E.arg5 E.h5 E.arg6 E.h6 E.arg7 E.h7 E.arg8 E.h8 >>= K := by
  iterate 10
    (iterate 3 refine Run.ld2 ?_
     iterate 3 refine Run.ld4 ?_
     iterate 3 refine Run.ld5 ?_
     refine Run.ld ?_
     refine Run.proj fun _ => ?_)
  iterate 10
    (iterate 4 refine Run.ld ?_
     refine Run.rowc fun _ => ?_)
  iterate 10
    (iterate 4 refine Run.ld ?_
     refine Run.row fun _ => ?_)
  iterate 10
    (iterate 4 refine Run.ld ?_
     refine Run.rowc fun _ => ?_)
  iterate 20
    (iterate 4 refine Run.ld ?_
     refine Run.row fun _ => ?_)
  iterate 10
    (iterate 4 refine Run.ld ?_
     refine Run.rowc fun _ => ?_)
  iterate 30
    (iterate 4 refine Run.ld ?_
     refine Run.row fun _ => ?_)
  iterate 10
    (iterate 4 refine Run.ld ?_
     refine Run.rowc fun _ => ?_)
  iterate 1
    (iterate 4 refine Run.ld ?_
     refine Run.row fun _ => ?_)
  iterate 3 refine Run.ld ?_
  exact h

end Cert.Proof.P.Env

end
-- ==== Proof.P.Body1.lean ====
/-
  The kernel's body, its window 2 of 7 (steps 111 to 252 of the 920).
-/
module

public import proofs.«01_k».proof.Proof.P.Common
public import proofs.«01_k».proof.Proof.Steps

@[expose] public section

set_option maxRecDepth 16384
set_option maxHeartbeats 8000000

noncomputable section

namespace Cert.Proof.P.Env

open Cert.Kernel Cert.Kernel.Gen Cert.Proof.Net
open Idealize.ShloMosaic Idealize.ShloMosaic.TcCoe
open Idealize.SL.Sem

variable {F : FTy → Type} [FloatOps F] (E : Env F)

/-- The body's window `k0_part386` performs the steps of `seg1`. -/
theorem run1 (L : List Step) (K : _ → Pg F) (h : E.Run L fun X => K (maskv 8#32)) :
    E.Run (seg1 L) fun X => k0_part386 E.i E.arg2 E.h2 E.arg3 E.h3 E.arg4 E.h4 E.arg5 E.h5 E.arg6 E.h6 E.arg7 E.h7 E.arg8 E.h8
      idxv (maskv 16#32) (rd X 1 32) (rd X 1 16) (minimumf (rd X 1 32) (rd X 1 48)) >>= K := by
  refine Run.ld ?_
  refine Run.row fun _ => ?_
  iterate 38
    (iterate 4 refine Run.ld ?_
     refine Run.row fun _ => ?_)
  iterate 10
    (iterate 4 refine Run.ld ?_
     refine Run.rowc fun _ => ?_)
  iterate 50
    (iterate 4 refine Run.ld ?_
     refine Run.row fun _ => ?_)
  iterate 10
    (iterate 4 refine Run.ld ?_
     refine Run.rowc fun _ => ?_)
  iterate 10
    (iterate 2 refine Run.ld ?_
     refine Run.lane fun _ => ?_)
  iterate 22
    (iterate 4 refine Run.ld ?_
     refine Run.row fun _ => ?_)
  exact h

end Cert.Proof.P.Env

end
-- ==== Proof.P.Body2.lean ====
/-
  The kernel's body, its window 3 of 7 (steps 252 to 401 of the 920).
-/
module

public import proofs.«01_k».proof.Proof.P.Common
public import proofs.«01_k».proof.Proof.Steps

@[expose] public section

set_option maxRecDepth 16384
set_option maxHeartbeats 8000000

noncomputable section

namespace Cert.Proof.P.Env

open Cert.Kernel Cert.Kernel.Gen Cert.Proof.Net
open Idealize.ShloMosaic Idealize.ShloMosaic.TcCoe
open Idealize.SL.Sem

variable {F : FTy → Type} [FloatOps F] (E : Env F)

/-- The body's window `k0_part387` performs the steps of `seg2`. -/
theorem run2 (L : List Step) (K : _ → Pg F) (h : E.Run L fun X => K ⟨maskv 32#32, (ce 32#32 (rd X 1 32) (rd X 1 64) (rd X 1 0))⟩) :
    E.Run (seg2 L) fun X => k0_part387 E.i E.arg2 E.h2 E.arg3 E.h3 E.arg4 E.h4 E.arg5 E.h5 E.arg6 E.h6 E.arg7 E.h7 E.arg8 E.h8
      idxv (maskv 8#32) >>= K := by
  iterate 28
    (iterate 4 refine Run.ld ?_
     refine Run.row fun _ => ?_)
  iterate 10
    (iterate 4 refine Run.ld ?_
     refine Run.rowc fun _ => ?_)
  iterate 20
    (iterate 2 refine Run.ld ?_
     refine Run.lane fun _ => ?_)
  iterate 50
    (iterate 4 refine Run.ld ?_
     refine Run.row fun _ => ?_)
  iterate 10
    (iterate 4 refine Run.ld ?_
     refine Run.rowc fun _ => ?_)
  iterate 30
    (iterate 2 refine Run.ld ?_
     refine Run.lane fun _ => ?_)
  iterate 1
    (iterate 4 refine Run.ld ?_
     refine Run.row fun _ => ?_)
  iterate 3 refine Run.ld ?_
  exact h

end Cert.Proof.P.Env

end
-- ==== Proof.P.Body3.lean ====
/-
  The kernel's body, its window 4 of 7 (steps 401 to 550 of the 920).
-/
module

public import proofs.«01_k».proof.Proof.P.Common
public import proofs.«01_k».proof.Proof.Steps

@[expose] public section

set_option maxRecDepth 16384
set_option maxHeartbeats 8000000

noncomputable section

namespace Cert.Proof.P.Env

open Cert.Kernel Cert.Kernel.Gen Cert.Proof.Net
open Idealize.ShloMosaic Idealize.ShloMosaic.TcCoe
open Idealize.SL.Sem

variable {F : FTy → Type} [FloatOps F] (E : Env F)

/-- The body's window `k0_part388` performs the steps of `seg3`. -/
theorem run3 (L : List Step) (K : _ → Pg F) (h : E.Run L fun X => K ⟨maskv 1#32, sgnv 1024#32, 2048#32⟩) :
    E.Run (seg3 L) fun X => k0_part388 E.i E.arg2 E.h2 E.arg3 E.h3 E.arg4 E.h4 E.arg5 E.h5 E.arg6 E.h6 E.arg7 E.h7 E.arg8 E.h8
      idxv (maskv 32#32) (ce 32#32 (rd X 1 32) (rd X 1 64) (rd X 1 0)) >>= K := by
  refine Run.ld ?_
  refine Run.row fun _ => ?_
  iterate 48
    (iterate 4 refine Run.ld ?_
     refine Run.row fun _ => ?_)
  iterate 10
    (iterate 4 refine Run.ld ?_
     refine Run.rowc fun _ => ?_)
  iterate 40
    (iterate 2 refine Run.ld ?_
     refine Run.lane fun _ => ?_)
  iterate 50
    (iterate 4 refine Run.ld ?_
     refine Run.row fun _ => ?_)
  exact h

end Cert.Proof.P.Env

end
-- ==== Proof.P.Body4.lean ====
/-
  The kernel's body, its window 5 of 7 (steps 550 to 709 of the 920).
-/
module

public import proofs.«01_k».proof.Proof.P.Common
public import proofs.«01_k».proof.Proof.Steps

@[expose] public section

set_option maxRecDepth 16384
set_option maxHeartbeats 8000000

noncomputable section

namespace Cert.Proof.P.Env

open Cert.Kernel Cert.Kernel.Gen Cert.Proof.Net
open Idealize.ShloMosaic Idealize.ShloMosaic.TcCoe
open Idealize.SL.Sem

variable {F : FTy → Type} [FloatOps F] (E : Env F)

/-- The body's window `k0_part389` performs the steps of `seg4`. -/
theorem run4 (L : List Step) (K : _ → Pg F) (h : E.Run L fun X => K (ce 256#32 (rd X 9 32) (rot 124#32 (rd X 9 32)) (rot 4#32 (rd X 9 32)))) :
    E.Run (seg4 L) fun X => k0_part389 E.i E.arg2 E.h2 E.arg3 E.h3 E.arg4 E.h4 E.arg5 E.h5 E.arg6 E.h6 E.arg7 E.h7 E.arg8 E.h8
      idxv (maskv 1#32) (sgnv 1024#32) 2048#32 >>= K := by
  iterate 10
    (iterate 4 refine Run.ld ?_
     refine Run.rowc fun _ => ?_)
  iterate 50
    (iterate 2 refine Run.ld ?_
     refine Run.lane fun _ => ?_)
  iterate 50
    (iterate 4 refine Run.ld ?_
     refine Run.row fun _ => ?_)
  iterate 10
    (iterate 4 refine Run.ld ?_
     refine Run.rowc fun _ => ?_)
  iterate 39
    (iterate 2 refine Run.ld ?_
     refine Run.lane fun _ => ?_)
  refine Run.ld ?_
  exact h

end Cert.Proof.P.Env

end
-- ==== Proof.P.Body5.lean ====
/-
  The kernel's body, its window 6 of 7 (steps 709 to 870 of the 920).
-/
module

public import proofs.«01_k».proof.Proof.P.Common
public import proofs.«01_k».proof.Proof.Steps

@[expose] public section

set_option maxRecDepth 16384
set_option maxHeartbeats 8000000

noncomputable section

namespace Cert.Proof.P.Env

open Cert.Kernel Cert.Kernel.Gen Cert.Proof.Net
open Idealize.ShloMosaic Idealize.ShloMosaic.TcCoe
open Idealize.SL.Sem

variable {F : FTy → Type} [FloatOps F] (E : Env F)

/-- The body's window `k0_part390` performs the steps of `seg5`. -/
theorem run5 (L : List Step) (K : _ → Pg F) (h : E.Run L fun X => K ⟨maskv 16#32, rd X 0 32, rd X 0 48⟩) :
    E.Run (seg5 L) fun X => k0_part390 E.i E.arg2 E.h2 E.arg3 E.h3 E.arg4 E.h4 E.arg5 E.h5 E.arg6 E.h6 E.arg7 E.h7 E.arg8 E.h8
      idxv (ce 256#32 (rd X 9 32) (rot 124#32 (rd X 9 32)) (rot 4#32 (rd X 9 32))) >>= K := by
  refine Run.ld ?_
  refine Run.lane fun _ => ?_
  iterate 20
    (iterate 2 refine Run.ld ?_
     refine Run.lane fun _ => ?_)
  iterate 50
    (iterate 4 refine Run.ld ?_
     refine Run.row fun _ => ?_)
  iterate 10
    (iterate 4 refine Run.ld ?_
     refine Run.rowl fun _ => ?_)
  iterate 70
    (iterate 2 refine Run.ld ?_
     refine Run.lane fun _ => ?_)
  iterate 10
    (iterate 4 refine Run.ld ?_
     refine Run.row fun _ => ?_)
  iterate 2 refine Run.ld ?_
  exact h

end Cert.Proof.P.Env

end
-- ==== Proof.PI.Common.lean ====
/-
  The idealized kernel's body, step by step: the rules that peel one load, or one store of a projection or of a
  compare-exchange of the sorting network, off the front of the body.
-/
module

public import proofs.«01_k».proof.Proof.Net
public import proofs.«01_k».proof.Proof.Gen.KernelIdeal.Frame

@[expose] public section

set_option maxRecDepth 16384

noncomputable section

namespace Cert.Proof.PI

open Cert.KernelIdeal Cert.KernelIdeal.Gen Cert.Proof.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A program of the kernel. -/
abbrev Pg (F : FTy → Type) [FloatOps F] : Type 1 := Prog (TpuEff nD τ sig (Elt F) Λ₀ .tc) PUnit

/-! ## Loads and stores on what is owned -/

section Rules
variable (d : Dev nD)

/-- A program's weakest precondition on the core. -/
abbrev WP (p : Pg F) (Q : PUnit → sProp 𝕄) : sProp 𝕄 :=
  wp frame (wpE (defs₀ (F := F)) Variants.none (d : Thread nD τ) none) Set.univ p Q

/-- A load of an owned memref answers its contents there. -/
theorem wp_ld {cs : CoreSpace} {s : Shape} {e : EltTy} (m : Memref sig .tc cs s e) {r : LoadRect s} {hl : m.view.LoadsAt r}
    {k : (r.shape.Idx → Elt F e) → Pg F} {Q : PUnit → sProp 𝕄} (X : s.Idx → Elt F e) :
    (owns (d : Thread nD τ) m fullShare X : sProp 𝕄)
      ⊢ iprop((owns (d : Thread nD τ) m fullShare X -∗ WP d (k (fun j => X (r.idx j))) Q) -∗ WP d (.op (.load m r hl) k) Q) := by
  unfold owns
  iintro ⟨%f, %hf, H⟩ Hk
  iapply (wp_load Variants.none (d : Thread nD τ) none Set.univ (View.setOn_subset_set _ _)) $$ H
  iintro H
  rw [show (m.view.readAt (Elt F) r f) = fun j => X (r.idx j) from by subst hf; rfl]
  iapply Hk
  iexists f
  isplitr
  · ipureintro; exact hf
  · iexact H

/-- A store to an owned memref lays the stored values over its contents. -/
theorem wp_st {cs : CoreSpace} {s : Shape} {e : EltTy} (m : Memref sig .tc cs s e) {r : Rect s} {w : r.shape.Idx → Elt F e}
    {hx : (m.access r).Stores Finset.univ} {hm : Finset.univ = Finset.univ ∨ ∀ a, r.stride a = 1}
    {k : PUnit → Pg F} {Q : PUnit → sProp 𝕄} (X : s.Idx → Elt F e) :
    (owns (d : Thread nD τ) m fullShare X : sProp 𝕄)
      ⊢ iprop((owns (d : Thread nD τ) m fullShare (r.overlay X w) -∗ WP d (k ⟨⟩) Q) -∗ WP d (.op (.store m r w Finset.univ hx hm) k) Q) := by
  unfold owns
  iintro ⟨%f, %hf, H⟩ Hk
  have hs := wp_store (Γ := .empty) (defs := defs₀ (F := F)) Variants.none (d : Thread nD τ) none Set.univ (Q := Q) (m := m) (r := r) (w := w) (hx := hx) (hm := hm)
    (k := k) (S := m.view.set) (f := f) (Memref.setOn_access_subset _ _ _)
  iapply hs $$ H
  iintro H
  iapply Hk
  iexists ((m.access r).write (Elt F) f w Finset.univ)
  isplitr
  · ipureintro
    subst hf
    funext y
    by_cases hy : y ∈ r.set
    · rw [← Rect.map_emb_univ, Finset.mem_map] at hy
      obtain ⟨x, -, rfl⟩ := hy
      exact (View.read_slice_write_emb r f w (Finset.mem_univ x)).trans (Rect.overlay_emb r _ w x).symm
    · rw [Rect.overlay_of_not_mem r _ w hy]
      exact View.read_slice_write_of_not_mem r f w Finset.univ (by rwa [Rect.map_emb_univ])
  · iexact H

end Rules

/-! ## The body's state -/

variable (F) in
/-- The point's operands, what the operands the sorting network only reads hold, and what is to hold of the planes
    sorted. -/
structure Env where
  d : Dev nD
  i : grid0.Coords
  arg2 : Memref sig .tc .smem S3x100 .f32
  arg3 : Memref sig .tc .smem S32 .f32
  arg4 : Memref sig .tc .vmem S1x3x64x128 .f32
  arg5 : Memref sig .tc .vmem S1x3x64x128 .f32
  arg6 : Memref sig .tc .smem S1 .f32
  arg7 : Memref sig .tc .vmem S10x192x128 .f32
  arg8 : Memref sig .tc .smem S2 .f32
  h2 : arg2.IsWhole
  h3 : arg3.IsWhole
  h4 : arg4.IsWhole
  h5 : arg5.IsWhole
  h6 : arg6.IsWhole
  h7 : arg7.IsWhole
  h8 : arg8.IsWhole
  A2 : S3x100.Idx → F .f32
  A3 : S32.Idx → F .f32
  X4 : S1x3x64x128.Idx → F .f32
  X5 : S1x3x64x128.Idx → F .f32
  O : S1.Idx → F .f32
  a8 : S2.Idx → F .f32
  Q : (Fin 10 → FVec F Pl .f32) → PUnit → sProp 𝕄

section Proj
variable (i : grid0.Coords) (A2 : S3x100.Idx → F .f32) (X4 X5 : S1x3x64x128.Idx → F .f32)

/-- The place of component one, two, three of the point's direction `a` among the directions. -/
def ra1 (a : Fin 10) : S3x100.Idx :=
  (Rect.unit (s := S3x100) (k0_off1 i (BitVec.ofNat 32 a.val)) S1x1.size (k0_off1_inb i a)).toLoadRect.idx (Shape.Idx.first (numel1_S1x1.symm ▸ Nat.one_pos))
/-- The place of the direction's second coordinate. -/
def ra2 (a : Fin 10) : S3x100.Idx :=
  (Rect.unit (s := S3x100) (k0_off2 i (BitVec.ofNat 32 a.val)) S1x1.size (k0_off2_inb i a)).toLoadRect.idx (Shape.Idx.first (numel1_S1x1.symm ▸ Nat.one_pos))
/-- The place of its third coordinate. -/
def ra3 (a : Fin 10) : S3x100.Idx :=
  (Rect.unit (s := S3x100) (k0_off3 i (BitVec.ofNat 32 a.val)) S1x1.size (k0_off3_inb i a)).toLoadRect.idx (Shape.Idx.first (numel1_S1x1.symm ▸ Nat.one_pos))

/-- Chain `a`'s projection at the point, from the arrays' contents. -/
def projv (a : Fin 10) : FVec F Pl .f32 :=
  projw (A2 (ra1 i a)) (A2 (ra2 i a)) (A2 (ra3 i a))
    (fun j => X4 ((rp 0).toLoadRect.idx j)) (fun j => X4 ((rp 1).toLoadRect.idx j)) (fun j => X4 ((rp 2).toLoadRect.idx j))
    (fun j => X5 ((rp 0).toLoadRect.idx j)) (fun j => X5 ((rp 1).toLoadRect.idx j)) (fun j => X5 ((rp 2).toLoadRect.idx j))

end Proj

namespace Env
variable (E : Env F)

/-- The operands besides the scratch of the ten chains. -/
def Rest : sProp 𝕄 :=
  iprop(owns (E.d : Thread nD τ) E.arg2 fullShare E.A2 ∗ owns (E.d : Thread nD τ) E.arg3 fullShare E.A3
    ∗ owns (E.d : Thread nD τ) E.arg4 fullShare E.X4 ∗ owns (E.d : Thread nD τ) E.arg5 fullShare E.X5
    ∗ owns (E.d : Thread nD τ) E.arg6 fullShare E.O ∗ owns (E.d : Thread nD τ) E.arg8 fullShare E.a8)

/-- The point's projections. -/
def P (a : Fin 10) : FVec F Pl .f32 := projv E.i E.A2 E.X4 E.X5 a

/-- From any planes in the scratch, the program, which may depend on what the scratch holds, runs to what is to hold of
    the planes the steps `L` make of them. -/
def Run (L : List Step) (p : (Sc.Idx → F .f32) → Pg F) : Prop :=
  ∀ W X, Win W X → iprop(owns (E.d : Thread nD τ) E.arg7 fullShare X ∗ E.Rest) ⊢ WP E.d (p X) (E.Q (L.foldl (fun W s => s.act E.P W) W))

variable {E}

/-- A load of the scratch answers what it holds; -/
theorem Run.ld {L : List Step} {r : LoadRect S10x192x128} {hl : E.arg7.view.LoadsAt r}
    {K : (Sc.Idx → F .f32) → (r.shape.Idx → F .f32) → Pg F} (h : E.Run L fun X => K X fun j => X (r.idx j)) :
    E.Run L fun X => .op (.load E.arg7 r hl) (K X) := by
  intro W X hW
  iintro ⟨H, HR⟩
  iapply (wp_ld E.d E.arg7 X) $$ H
  iintro H
  iapply (h W X hW)
  isplitl [H]
  · iexact H
  · iexact HR

/-- a load of the directions, of the first cloud's block, of the second's, what those hold. -/
theorem Run.ld2 {L : List Step} {r : LoadRect S3x100} {hl : E.arg2.view.LoadsAt r}
    {K : (Sc.Idx → F .f32) → (r.shape.Idx → F .f32) → Pg F} (h : E.Run L fun X => K X fun j => E.A2 (r.idx j)) :
    E.Run L fun X => .op (.load E.arg2 r hl) (K X) := by
  intro W X hW
  unfold Rest
  iintro ⟨H7, H2, H3, H4, H5, H6, H8⟩
  iapply (wp_ld E.d E.arg2 E.A2) $$ H2
  iintro H2
  iapply (h W X hW)
  unfold Rest
  iframe
/-- A load of the first cloud's block. -/
theorem Run.ld4 {L : List Step} {r : LoadRect S1x3x64x128} {hl : E.arg4.view.LoadsAt r}
    {K : (Sc.Idx → F .f32) → (r.shape.Idx → F .f32) → Pg F} (h : E.Run L fun X => K X fun j => E.X4 (r.idx j)) :
    E.Run L fun X => .op (.load E.arg4 r hl) (K X) := by
  intro W X hW
  unfold Rest
  iintro ⟨H7, H2, H3, H4, H5, H6, H8⟩
  iapply (wp_ld E.d E.arg4 E.X4) $$ H4
  iintro H4
  iapply (h W X hW)
  unfold Rest
  iframe
/-- A load of the second cloud's block. -/
theorem Run.ld5 {L : List Step} {r : LoadRect S1x3x64x128} {hl : E.arg5.view.LoadsAt r}
    {K : (Sc.Idx → F .f32) → (r.shape.Idx → F .f32) → Pg F} (h : E.Run L fun X => K X fun j => E.X5 (r.idx j)) :
    E.Run L fun X => .op (.load E.arg5 r hl) (K X) := by
  intro W X hW
  unfold Rest
  iintro ⟨H7, H2, H3, H4, H5, H6, H8⟩
  iapply (wp_ld E.d E.arg5 E.X5) $$ H5
  iintro H5
  iapply (h W X hW)
  unfold Rest
  iframe

/-- A store of a plane into chain `a`'s rows that is what a step makes of the planes performs the step. -/
theorem Run.st {L : List Step} {s : Step} (a : Fin 10) (v : (Sc.Idx → F .f32) → FVec F Pl .f32)
    {hx : (E.arg7.access (rc a 32)).Stores Finset.univ} {hm : Finset.univ = Finset.univ ∨ ∀ b, (rc a 32).stride b = 1}
    {K : (Sc.Idx → F .f32) → PUnit → Pg F}
    (hs : ∀ W X, Win W X → Function.update W a (v X) = s.act E.P W)
    (h : ∀ X, E.Run L fun _ => K X ⟨⟩) :
    E.Run (s :: L) fun X => .op (.store E.arg7 (rc a 32) (block (v X)) Finset.univ hx hm) (K X) := by
  intro W X hW
  iintro ⟨H, HR⟩
  iapply (wp_st E.d E.arg7 X) $$ H
  iintro H
  have := h X _ _ (hW.store a (v X))
  rw [hs W X hW] at this
  iapply this
  isplitl [H]
  · iexact H
  · iexact HR

/-- The store of a projection. -/
theorem Run.proj {L : List Step} {a : Fin 10} {hx : (E.arg7.access (rc a 32)).Stores Finset.univ}
    {hm : Finset.univ = Finset.univ ∨ ∀ b, (rc a 32).stride b = 1} {K : (Sc.Idx → F .f32) → PUnit → Pg F}
    (h : ∀ X, E.Run L fun _ => K X ⟨⟩) :
    E.Run (.proj a :: L) fun X => .op (.store E.arg7 (rc a 32) (block (projv E.i E.A2 E.X4 E.X5 a)) Finset.univ hx hm) (K X) :=
  Run.st a (fun _ => projv E.i E.A2 E.X4 E.X5 a) (fun _ _ _ => rfl) h

/-- The plane of chain `a` read from row `r`. -/
abbrev rd (X : Sc.Idx → F .f32) (a : Fin 10) (r : Fin 65) : FVec F Pl .f32 := plane (fun j => X ((rc a r).toLoadRect.idx j))

/-- A compare-exchange along the rows. -/
theorem Run.row {L : List Step} {a : Fin 10} {e : Fin 6} {hx : (E.arg7.access (rc a 32)).Stores Finset.univ}
    {hm : Finset.univ = Finset.univ ∨ ∀ b, (rc a 32).stride b = 1} {K : (Sc.Idx → F .f32) → PUnit → Pg F}
    (h : ∀ X, E.Run L fun _ => K X ⟨⟩) :
    E.Run (.row a e :: L) fun X => .op (.store E.arg7 (rc a 32) (block (ce (bit e.val) (rd X a 32) (rd X a (up e)) (rd X a (dn e))))
      Finset.univ hx hm) (K X) :=
  Run.st a (fun X => ce (bit e.val) (rd X a 32) (rd X a (up e)) (rd X a (dn e)))
    (fun W X hW => by rw [hW.ceRow a e]; rfl) h

/-- A compare-exchange of neighbouring rows, and two changes of signs after it. -/
theorem Run.rowc {L : List Step} {a : Fin 10} {s : ℕ} {hx : (E.arg7.access (rc a 32)).Stores Finset.univ}
    {hm : Finset.univ = Finset.univ ∨ ∀ b, (rc a 32).stride b = 1} {K : (Sc.Idx → F .f32) → PUnit → Pg F}
    (h : ∀ X, E.Run L fun _ => K X ⟨⟩) :
    E.Run (.rowc a s :: L) fun X => .op (.store E.arg7 (rc a 32)
      (block (mulf (ce (bit 0) (rd X a 32) (rd X a (up 0)) (rd X a (dn 0))) (mulf (sgnv (bit s)) (sgnv (bit (s + 1))))))
      Finset.univ hx hm) (K X) :=
  Run.st a (fun X => mulf (ce (bit 0) (rd X a 32) (rd X a (up 0)) (rd X a (dn 0))) (mulf (sgnv (bit s)) (sgnv (bit (s + 1)))))
    (fun W X hW => by rw [show ce (bit 0) (rd X a 32) (rd X a (up 0)) (rd X a (dn 0)) = ceRow 0 (W a) from hW.ceRow a 0]; rfl) h

/-- A compare-exchange of neighbouring rows, and a change of signs after it. -/
theorem Run.rowl {L : List Step} {a : Fin 10} {s : ℕ} {hx : (E.arg7.access (rc a 32)).Stores Finset.univ}
    {hm : Finset.univ = Finset.univ ∨ ∀ b, (rc a 32).stride b = 1} {K : (Sc.Idx → F .f32) → PUnit → Pg F}
    (h : ∀ X, E.Run L fun _ => K X ⟨⟩) :
    E.Run (.rowl a s :: L) fun X => .op (.store E.arg7 (rc a 32)
      (block (mulf (ce (bit 0) (rd X a 32) (rd X a (up 0)) (rd X a (dn 0))) (sgnv (bit s)))) Finset.univ hx hm) (K X) :=
  Run.st a (fun X => mulf (ce (bit 0) (rd X a 32) (rd X a (up 0)) (rd X a (dn 0))) (sgnv (bit s)))
    (fun W X hW => by rw [show ce (bit 0) (rd X a 32) (rd X a (up 0)) (rd X a (dn 0)) = ceRow 0 (W a) from hW.ceRow a 0]; rfl) h

/-- A compare-exchange along the lanes. -/
theorem Run.lane {L : List Step} {a : Fin 10} {k : Fin 7} {hx : (E.arg7.access (rc a 32)).Stores Finset.univ}
    {hm : Finset.univ = Finset.univ ∨ ∀ b, (rc a 32).stride b = 1} {K : (Sc.Idx → F .f32) → PUnit → Pg F}
    (h : ∀ X, E.Run L fun _ => K X ⟨⟩) :
    E.Run (.lane a k :: L) fun X => .op (.store E.arg7 (rc a 32)
      (block (ce (bit (k.val + 6)) (rd X a 32) (rot (BitVec.ofNat 32 (128 - 2 ^ k.val)) (rd X a 32)) (rot (bit k.val) (rd X a 32))))
      Finset.univ hx hm) (K X) :=
  Run.st a (fun X => ce (bit (k.val + 6)) (rd X a 32) (rot (BitVec.ofNat 32 (128 - 2 ^ k.val)) (rd X a 32)) (rot (bit k.val) (rd X a 32)))
    (fun W X hW => by rw [ceLane_rot, show rd X a 32 = W a from hW a]; rfl) h

end Env

end Cert.Proof.PI

end
-- ==== Proof.PI.Body0.lean ====
/-
  The idealized kernel's body, its window 1 of 7 (steps 0 to 111 of the 920).
-/
module

public import proofs.«01_k».proof.Proof.PI.Common
public import proofs.«01_k».proof.Proof.Steps

@[expose] public section

set_option maxRecDepth 16384
set_option maxHeartbeats 8000000

noncomputable section

namespace Cert.Proof.PI.Env

open Cert.KernelIdeal Cert.KernelIdeal.Gen Cert.Proof.Net
open Idealize.ShloMosaic Idealize.ShloMosaic.TcCoe
open Idealize.SL.Sem

variable {F : FTy → Type} [FloatOps F] [Named F] (E : Env F)

/-- The body's window `k0_part385` performs the steps of `seg0`. -/
theorem run0 (L : List Step) (K : _ → Pg F) (h : E.Run L fun X => K ⟨BitVec.ofNat 32 (E.i 0).val, BitVec.ofNat 32 (E.i 1).val, idxv, maskv 16#32, rd X 1 32, rd X 1 16, minimumf (rd X 1 32) (rd X 1 48)⟩) :
    E.Run (seg0 L) fun X => k0_part385 E.i E.arg2 E.h2 E.arg3 E.h3 E.arg4 E.h4 E.arg5 E.h5 E.arg6 E.h6 E.arg7 E.h7 E.arg8 E.h8 >>= K := by
  iterate 10
    (iterate 3 refine Run.ld2 ?_
     iterate 3 refine Run.ld4 ?_
     iterate 3 refine Run.ld5 ?_
     refine Run.ld ?_
     refine Run.proj fun _ => ?_)
  iterate 10
    (iterate 4 refine Run.ld ?_
     refine Run.rowc fun _ => ?_)
  iterate 10
    (iterate 4 refine Run.ld ?_
     refine Run.row fun _ => ?_)
  iterate 10
    (iterate 4 refine Run.ld ?_
     refine Run.rowc fun _ => ?_)
  iterate 20
    (iterate 4 refine Run.ld ?_
     refine Run.row fun _ => ?_)
  iterate 10
    (iterate 4 refine Run.ld ?_
     refine Run.rowc fun _ => ?_)
  iterate 30
    (iterate 4 refine Run.ld ?_
     refine Run.row fun _ => ?_)
  iterate 10
    (iterate 4 refine Run.ld ?_
     refine Run.rowc fun _ => ?_)
  iterate 1
    (iterate 4 refine Run.ld ?_
     refine Run.row fun _ => ?_)
  iterate 3 refine Run.ld ?_
  exact h

end Cert.Proof.PI.Env

end
-- ==== Proof.PI.Body1.lean ====
/-
  The idealized kernel's body, its window 2 of 7 (steps 111 to 252 of the 920).
-/
module

public import proofs.«01_k».proof.Proof.PI.Common
public import proofs.«01_k».proof.Proof.Steps

@[expose] public section

set_option maxRecDepth 16384
set_option maxHeartbeats 8000000

noncomputable section

namespace Cert.Proof.PI.Env

open Cert.KernelIdeal Cert.KernelIdeal.Gen Cert.Proof.Net
open Idealize.ShloMosaic Idealize.ShloMosaic.TcCoe
open Idealize.SL.Sem

variable {F : FTy → Type} [FloatOps F] [Named F] (E : Env F)

/-- The body's window `k0_part386` performs the steps of `seg1`. -/
theorem run1 (L : List Step) (K : _ → Pg F) (h : E.Run L fun X => K (maskv 8#32)) :
    E.Run (seg1 L) fun X => k0_part386 E.i E.arg2 E.h2 E.arg3 E.h3 E.arg4 E.h4 E.arg5 E.h5 E.arg6 E.h6 E.arg7 E.h7 E.arg8 E.h8
      idxv (maskv 16#32) (rd X 1 32) (rd X 1 16) (minimumf (rd X 1 32) (rd X 1 48)) >>= K := by
  refine Run.ld ?_
  refine Run.row fun _ => ?_
  iterate 38
    (iterate 4 refine Run.ld ?_
     refine Run.row fun _ => ?_)
  iterate 10
    (iterate 4 refine Run.ld ?_
     refine Run.rowc fun _ => ?_)
  iterate 50
    (iterate 4 refine Run.ld ?_
     refine Run.row fun _ => ?_)
  iterate 10
    (iterate 4 refine Run.ld ?_
     refine Run.rowc fun _ => ?_)
  iterate 10
    (iterate 2 refine Run.ld ?_
     refine Run.lane fun _ => ?_)
  iterate 22
    (iterate 4 refine Run.ld ?_
     refine Run.row fun _ => ?_)
  exact h

end Cert.Proof.PI.Env

end
-- ==== Proof.PI.Body2.lean ====
/-
  The idealized kernel's body, its window 3 of 7 (steps 252 to 401 of the 920).
-/
module

public import proofs.«01_k».proof.Proof.PI.Common
public import proofs.«01_k».proof.Proof.Steps

@[expose] public section

set_option maxRecDepth 16384
set_option maxHeartbeats 8000000

noncomputable section

namespace Cert.Proof.PI.Env

open Cert.KernelIdeal Cert.KernelIdeal.Gen Cert.Proof.Net
open Idealize.ShloMosaic Idealize.ShloMosaic.TcCoe
open Idealize.SL.Sem

variable {F : FTy → Type} [FloatOps F] [Named F] (E : Env F)

/-- The body's window `k0_part387` performs the steps of `seg2`. -/
theorem run2 (L : List Step) (K : _ → Pg F) (h : E.Run L fun X => K ⟨maskv 32#32, (ce 32#32 (rd X 1 32) (rd X 1 64) (rd X 1 0))⟩) :
    E.Run (seg2 L) fun X => k0_part387 E.i E.arg2 E.h2 E.arg3 E.h3 E.arg4 E.h4 E.arg5 E.h5 E.arg6 E.h6 E.arg7 E.h7 E.arg8 E.h8
      idxv (maskv 8#32) >>= K := by
  iterate 28
    (iterate 4 refine Run.ld ?_
     refine Run.row fun _ => ?_)
  iterate 10
    (iterate 4 refine Run.ld ?_
     refine Run.rowc fun _ => ?_)
  iterate 20
    (iterate 2 refine Run.ld ?_
     refine Run.lane fun _ => ?_)
  iterate 50
    (iterate 4 refine Run.ld ?_
     refine Run.row fun _ => ?_)
  iterate 10
    (iterate 4 refine Run.ld ?_
     refine Run.rowc fun _ => ?_)
  iterate 30
    (iterate 2 refine Run.ld ?_
     refine Run.lane fun _ => ?_)
  iterate 1
    (iterate 4 refine Run.ld ?_
     refine Run.row fun _ => ?_)
  iterate 3 refine Run.ld ?_
  exact h

end Cert.Proof.PI.Env

end
-- ==== Proof.PI.Body3.lean ====
/-
  The idealized kernel's body, its window 4 of 7 (steps 401 to 550 of the 920).
-/
module

public import proofs.«01_k».proof.Proof.PI.Common
public import proofs.«01_k».proof.Proof.Steps

@[expose] public section

set_option maxRecDepth 16384
set_option maxHeartbeats 8000000

noncomputable section

namespace Cert.Proof.PI.Env

open Cert.KernelIdeal Cert.KernelIdeal.Gen Cert.Proof.Net
open Idealize.ShloMosaic Idealize.ShloMosaic.TcCoe
open Idealize.SL.Sem

variable {F : FTy → Type} [FloatOps F] [Named F] (E : Env F)

/-- The body's window `k0_part388` performs the steps of `seg3`. -/
theorem run3 (L : List Step) (K : _ → Pg F) (h : E.Run L fun X => K ⟨maskv 1#32, sgnv 1024#32, 2048#32⟩) :
    E.Run (seg3 L) fun X => k0_part388 E.i E.arg2 E.h2 E.arg3 E.h3 E.arg4 E.h4 E.arg5 E.h5 E.arg6 E.h6 E.arg7 E.h7 E.arg8 E.h8
      idxv (maskv 32#32) (ce 32#32 (rd X 1 32) (rd X 1 64) (rd X 1 0)) >>= K := by
  refine Run.ld ?_
  refine Run.row fun _ => ?_
  iterate 48
    (iterate 4 refine Run.ld ?_
     refine Run.row fun _ => ?_)
  iterate 10
    (iterate 4 refine Run.ld ?_
     refine Run.rowc fun _ => ?_)
  iterate 40
    (iterate 2 refine Run.ld ?_
     refine Run.lane fun _ => ?_)
  iterate 50
    (iterate 4 refine Run.ld ?_
     refine Run.row fun _ => ?_)
  exact h

end Cert.Proof.PI.Env

end
-- ==== Proof.PI.Body4.lean ====
/-
  The idealized kernel's body, its window 5 of 7 (steps 550 to 709 of the 920).
-/
module

public import proofs.«01_k».proof.Proof.PI.Common
public import proofs.«01_k».proof.Proof.Steps

@[expose] public section

set_option maxRecDepth 16384
set_option maxHeartbeats 8000000

noncomputable section

namespace Cert.Proof.PI.Env

open Cert.KernelIdeal Cert.KernelIdeal.Gen Cert.Proof.Net
open Idealize.ShloMosaic Idealize.ShloMosaic.TcCoe
open Idealize.SL.Sem

variable {F : FTy → Type} [FloatOps F] [Named F] (E : Env F)

/-- The body's window `k0_part389` performs the steps of `seg4`. -/
theorem run4 (L : List Step) (K : _ → Pg F) (h : E.Run L fun X => K (ce 256#32 (rd X 9 32) (rot 124#32 (rd X 9 32)) (rot 4#32 (rd X 9 32)))) :
    E.Run (seg4 L) fun X => k0_part389 E.i E.arg2 E.h2 E.arg3 E.h3 E.arg4 E.h4 E.arg5 E.h5 E.arg6 E.h6 E.arg7 E.h7 E.arg8 E.h8
      idxv (maskv 1#32) (sgnv 1024#32) 2048#32 >>= K := by
  iterate 10
    (iterate 4 refine Run.ld ?_
     refine Run.rowc fun _ => ?_)
  iterate 50
    (iterate 2 refine Run.ld ?_
     refine Run.lane fun _ => ?_)
  iterate 50
    (iterate 4 refine Run.ld ?_
     refine Run.row fun _ => ?_)
  iterate 10
    (iterate 4 refine Run.ld ?_
     refine Run.rowc fun _ => ?_)
  iterate 39
    (iterate 2 refine Run.ld ?_
     refine Run.lane fun _ => ?_)
  refine Run.ld ?_
  exact h

end Cert.Proof.PI.Env

end
-- ==== Proof.PI.Body5.lean ====
/-
  The idealized kernel's body, its window 6 of 7 (steps 709 to 870 of the 920).
-/
module

public import proofs.«01_k».proof.Proof.PI.Common
public import proofs.«01_k».proof.Proof.Steps

@[expose] public section

set_option maxRecDepth 16384
set_option maxHeartbeats 8000000

noncomputable section

namespace Cert.Proof.PI.Env

open Cert.KernelIdeal Cert.KernelIdeal.Gen Cert.Proof.Net
open Idealize.ShloMosaic Idealize.ShloMosaic.TcCoe
open Idealize.SL.Sem

variable {F : FTy → Type} [FloatOps F] [Named F] (E : Env F)

/-- The body's window `k0_part390` performs the steps of `seg5`. -/
theorem run5 (L : List Step) (K : _ → Pg F) (h : E.Run L fun X => K ⟨maskv 16#32, rd X 0 32, rd X 0 48⟩) :
    E.Run (seg5 L) fun X => k0_part390 E.i E.arg2 E.h2 E.arg3 E.h3 E.arg4 E.h4 E.arg5 E.h5 E.arg6 E.h6 E.arg7 E.h7 E.arg8 E.h8
      idxv (ce 256#32 (rd X 9 32) (rot 124#32 (rd X 9 32)) (rot 4#32 (rd X 9 32))) >>= K := by
  refine Run.ld ?_
  refine Run.lane fun _ => ?_
  iterate 20
    (iterate 2 refine Run.ld ?_
     refine Run.lane fun _ => ?_)
  iterate 50
    (iterate 4 refine Run.ld ?_
     refine Run.row fun _ => ?_)
  iterate 10
    (iterate 4 refine Run.ld ?_
     refine Run.rowl fun _ => ?_)
  iterate 70
    (iterate 2 refine Run.ld ?_
     refine Run.lane fun _ => ?_)
  iterate 10
    (iterate 4 refine Run.ld ?_
     refine Run.row fun _ => ?_)
  iterate 2 refine Run.ld ?_
  exact h

end Cert.Proof.PI.Env

end
-- ==== Proof.PI.Tail.lean ====
/-
  The idealized kernel's body after the sorting network: the ten distances added up, the accumulators in the scratch of two
  words, and at the last point their quotient; with the windows before it, the whole body.
-/
module

public import proofs.«01_k».proof.Proof.Dist
public import proofs.«01_k».proof.Proof.PI.Body0
public import proofs.«01_k».proof.Proof.PI.Body1
public import proofs.«01_k».proof.Proof.PI.Body2
public import proofs.«01_k».proof.Proof.PI.Body3
public import proofs.«01_k».proof.Proof.PI.Body4
public import proofs.«01_k».proof.Proof.PI.Body5

@[expose] public section

set_option maxRecDepth 16384
set_option maxHeartbeats 8000000

noncomputable section

namespace Cert.Proof.PI

open Cert.KernelIdeal Cert.KernelIdeal.Gen Cert.Proof.Net
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The factor every point's sum is scaled by. -/
def kc : F .f32 := Named.named κ "inv_n_angles" 0x35A3D70A#32

section Acc
variable (i : grid0.Coords)

/-- Whether the point is the first of all, the first of its pair of clouds, the last of all. -/
abbrev c1 : Prop := isw2 (BitVec.ofNat 32 (i 0).val) 0#32 (BitVec.ofNat 32 (i 1).val) 0#32
/-- The condition under which the weight is added. -/
abbrev c2 : Prop := isw (BitVec.ofNat 32 (i 1).val) 0#32
/-- The condition under which the result is written. -/
abbrev c3 : Prop := k0_cond3 i = 1#1

/-- The point's weight. -/
def wt (A3 : S32.Idx → F .f32) : F .f32 :=
  A3 ((Rect.unit (s := S32) (k0_off4 i) S1.size (k0_off4_inb i)).toLoadRect.idx (Shape.Idx.first (numel1_S1.symm ▸ Nat.one_pos)))

/-- The accumulators after the point, from those before: the sum of weighted distances, and the sum of the weights. -/
def accU (A3 : S32.Idx → F .f32) (t : F .f32) (u : F .f32) : F .f32 :=
  Scalar.addf (if c1 i then Scalar.ofBits .f32 0x00000000#32 else u) (Scalar.mulf (Scalar.mulf (wt i A3) t) kc)
/-- The sum of the weights after the point. -/
def accV (A3 : S32.Idx → F .f32) (v : F .f32) : F .f32 :=
  if c2 i then Scalar.addf (if c1 i then Scalar.ofBits .f32 0x00000000#32 else v) (wt i A3)
  else if c1 i then Scalar.ofBits .f32 0x00000000#32 else v

/-- The result's word after the point, from the accumulators after it and the word before it. -/
def outO (u v : F .f32) (O : S1.Idx → F .f32) : S1.Idx → F .f32 :=
  if c3 i then fun _ => Scalar.divf u v else O

end Acc

namespace Env

variable (E : Env F)

/-- The program runs, from the planes `W` in a scratch holding `X`, accumulators `u` and `v` and a result word `O`, to
    what is to hold of `W`. -/
def Tl (W : Fin 10 → FVec F Pl .f32) (X : Sc.Idx → F .f32) (u v : F .f32) (O : S1.Idx → F .f32) (p : Pg F) : Prop :=
  iprop(owns (E.d : Thread nD τ) E.arg7 fullShare X ∗ owns (E.d : Thread nD τ) E.arg2 fullShare E.A2
    ∗ owns (E.d : Thread nD τ) E.arg3 fullShare E.A3 ∗ owns (E.d : Thread nD τ) E.arg4 fullShare E.X4
    ∗ owns (E.d : Thread nD τ) E.arg5 fullShare E.X5 ∗ owns (E.d : Thread nD τ) E.arg6 fullShare O
    ∗ owns (E.d : Thread nD τ) E.arg8 fullShare (pair u v)) ⊢ WP E.d p (E.Q W)

variable {E} {W : Fin 10 → FVec F Pl .f32} {X : Sc.Idx → F .f32} {u v : F .f32} {O : S1.Idx → F .f32}

/-- A load of the weight. -/
theorem Tl.ld3 {r : LoadRect S32} {hl : E.arg3.view.LoadsAt r} {K : (r.shape.Idx → F .f32) → Pg F}
    (h : E.Tl W X u v O (K fun j => E.A3 (r.idx j))) : E.Tl W X u v O (.op (.load E.arg3 r hl) K) := by
  unfold Tl at h ⊢
  iintro ⟨H7, H2, H3, H4, H5, H6, H8⟩
  iapply (wp_ld E.d E.arg3 E.A3) $$ H3
  iintro H3
  iapply h
  iframe

/-- A load of the result's buffer. -/
theorem Tl.ld6 {r : LoadRect S1} {hl : E.arg6.view.LoadsAt r} {K : (r.shape.Idx → F .f32) → Pg F}
    (h : E.Tl W X u v O (K fun j => O (r.idx j))) : E.Tl W X u v O (.op (.load E.arg6 r hl) K) := by
  unfold Tl at h ⊢
  iintro ⟨H7, H2, H3, H4, H5, H6, H8⟩
  iapply (wp_ld E.d E.arg6 O) $$ H6
  iintro H6
  iapply h
  iframe

/-- A load of an accumulator. -/
theorem Tl.ld8 {r : LoadRect S2} {hl : E.arg8.view.LoadsAt r} {K : (r.shape.Idx → F .f32) → Pg F}
    (h : E.Tl W X u v O (K fun j => pair u v (r.idx j))) : E.Tl W X u v O (.op (.load E.arg8 r hl) K) := by
  unfold Tl at h ⊢
  iintro ⟨H7, H2, H3, H4, H5, H6, H8⟩
  iapply (wp_ld E.d E.arg8 (pair u v)) $$ H8
  iintro H8
  iapply h
  iframe

/-- A store to the first accumulator. -/
theorem Tl.st80 {w : F .f32} {hi} {hx : (E.arg8.access (Rect.unit (s := S2) ![0] S1.size hi)).Stores Finset.univ} {hm}
    {K : PUnit → Pg F} (h : E.Tl W X w v O (K ⟨⟩)) :
    E.Tl W X u v O (.op (.store E.arg8 (Rect.unit (s := S2) ![0] S1.size hi) (fun _ => w) Finset.univ hx hm) K) := by
  unfold Tl at h ⊢
  iintro ⟨H7, H2, H3, H4, H5, H6, H8⟩
  iapply (wp_st E.d E.arg8 (pair u v)) $$ H8
  iintro H8
  rw [pair_overlay0 u v w hi]
  iapply h
  iframe

/-- A store to the second accumulator. -/
theorem Tl.st81 {w : F .f32} {hi} {hx : (E.arg8.access (Rect.unit (s := S2) ![1] S1.size hi)).Stores Finset.univ} {hm}
    {K : PUnit → Pg F} (h : E.Tl W X u w O (K ⟨⟩)) :
    E.Tl W X u v O (.op (.store E.arg8 (Rect.unit (s := S2) ![1] S1.size hi) (fun _ => w) Finset.univ hx hm) K) := by
  unfold Tl at h ⊢
  iintro ⟨H7, H2, H3, H4, H5, H6, H8⟩
  iapply (wp_st E.d E.arg8 (pair u v)) $$ H8
  iintro H8
  rw [pair_overlay1 u v w hi]
  iapply h
  iframe

/-- The store of the result. -/
theorem Tl.st6 {w : F .f32} {hi} {hx : (E.arg6.access (Rect.unit (s := S1) ![0] S1.size hi)).Stores Finset.univ} {hm}
    {K : PUnit → Pg F} (h : E.Tl W X u v (fun _ => w) (K ⟨⟩)) :
    E.Tl W X u v O (.op (.store E.arg6 (Rect.unit (s := S1) ![0] S1.size hi) (fun _ => w) Finset.univ hx hm) K) := by
  unfold Tl at h ⊢
  iintro ⟨H7, H2, H3, H4, H5, H6, H8⟩
  iapply (wp_st E.d E.arg6 O) $$ H6
  iintro H6
  rw [one_overlay O w hi]
  iapply h
  iframe

/-- A conditional at the head of the program, and at the head of a sequence. -/
theorem Tl.ite {c : Prop} {_ : Decidable c} {p : c → Pg F} {q : ¬c → Pg F}
    (h : ∀ hc, E.Tl W X u v O (p hc)) (h' : ∀ hc, E.Tl W X u v O (q hc)) : E.Tl W X u v O (dite c p q) := by
  split
  · exact h _
  · exact h' _
/-- A branch inside a bind. -/
theorem Tl.ite2 {α : Type} {c : Prop} {_ : Decidable c} {p : c → Prog (TpuEff nD τ sig (Elt F) Λ₀ .tc) α}
    {q : ¬c → Prog (TpuEff nD τ sig (Elt F) Λ₀ .tc) α} {K : α → Pg F}
    (h : ∀ hc, E.Tl W X u v O ((p hc).bind K)) (h' : ∀ hc, E.Tl W X u v O ((q hc).bind K)) :
    E.Tl W X u v O ((dite c p q).bind K) := by
  split
  · exact h _
  · exact h' _

/-- From the accumulators to the end of the body. -/
theorem Tl.run {p : Pg F} (h8 : E.a8 = pair u v) (h : E.Tl W X u v E.O p) :
    iprop(owns (E.d : Thread nD τ) E.arg7 fullShare X ∗ E.Rest) ⊢ WP E.d p (E.Q W) := by
  unfold Tl at h
  unfold Rest
  rw [h8]
  exact h

/-- What the body leaves. -/
def Leaves (E : Env F) (u v : F .f32) : Prop :=
  ∀ W X, iprop(owns (E.d : Thread nD τ) E.arg7 fullShare X ∗ owns (E.d : Thread nD τ) E.arg2 fullShare E.A2
    ∗ owns (E.d : Thread nD τ) E.arg3 fullShare E.A3 ∗ owns (E.d : Thread nD τ) E.arg4 fullShare E.X4
    ∗ owns (E.d : Thread nD τ) E.arg5 fullShare E.X5
    ∗ owns (E.d : Thread nD τ) E.arg6 fullShare (outO E.i (accU E.i E.A3 (total W) u) (accV E.i E.A3 v) E.O)
    ∗ owns (E.d : Thread nD τ) E.arg8 fullShare (pair (accU E.i E.A3 (total W) u) (accV E.i E.A3 v))) ⊢ E.Q W ⟨⟩

/-- The end of the body. -/
theorem Tl.done {u' v' : F .f32} {O' : S1.Idx → F .f32} (hQ : E.Leaves u v) (hr : ∀ a, rd X a 32 = W a)
    (hu : u' = accU E.i E.A3 (total fun a => rd X a 32) u) (hv : v' = accV E.i E.A3 v)
    (hO : O' = outO E.i (accU E.i E.A3 (total fun a => rd X a 32) u) (accV E.i E.A3 v) E.O) :
    E.Tl W X u' v' O' (.ret ⟨⟩) := by
  unfold Tl
  rw [hu, hv, hO, show (fun a => rd X a 32) = W from funext hr]
  show _ ⊢ iprop(|={Set.univ}[Idealize.ShloMosaic.frame]=> E.Q W ⟨⟩)
  iintro H
  imodintro
  iapply (hQ W X)
  iexact H

/-- From any planes in the scratch, the body runs: it leaves the directions, the weights and the two clouds, and the
    accumulators and the result's word as the planes sorted make them. -/
theorem body (h8 : E.a8 = pair u v) (hQ : E.Leaves u v) :
    E.Run steps fun _ => cc0__swd_kernel E.i E.arg2 E.h2 E.arg3 E.h3 E.arg4 E.h4 E.arg5 E.h5 E.arg6 E.h6 E.arg7 E.h7 E.arg8 E.h8 := by
  rw [← segs]
  unfold cc0__swd_kernel
  refine run0 E _ _ ?_
  refine run1 E _ _ ?_
  refine run2 E _ _ ?_
  refine run3 E _ _ ?_
  refine run4 E _ _ ?_
  refine run5 E _ _ ?_
  iterate 2 refine Run.ld ?_
  refine Run.row fun _ => ?_
  iterate 49
    (iterate 4 refine Run.ld ?_
     refine Run.row fun _ => ?_)
  iterate 10 refine Run.ld ?_
  intro W X hW
  have hr : ∀ a, rd X a 32 = W a := hW
  refine Tl.run h8 ?_
  refine Tl.ld3 ?_
  refine Tl.ite2 (fun h1 => ?_) (fun h1 => ?_)
  · refine Tl.ld8 ?_
    refine Tl.st80 ?_
    refine Tl.ld8 ?_
    refine Tl.st81 ?_
    refine Tl.ld8 ?_
    refine Tl.ld8 ?_
    refine Tl.st80 ?_
    refine Tl.ite2 (fun h2 => ?_) (fun h2 => ?_)
    · refine Tl.ld8 ?_
      refine Tl.ld8 ?_
      refine Tl.st81 ?_
      refine Tl.ite (fun h3 => ?_) (fun h3 => ?_)
      · refine Tl.ld8 ?_
        refine Tl.ld8 ?_
        refine Tl.ld6 ?_
        refine Tl.st6 ?_
        refine Tl.done hQ hW ?_ ?_ ?_
        · rw [accU, if_pos h1]; rfl
        · rw [accV, if_pos h2, if_pos h1]; rfl
        · rw [outO, if_pos h3, accU, accV, if_pos h1, if_pos h2, if_pos h1]; rfl
      · refine Tl.done hQ hW ?_ ?_ ?_
        · rw [accU, if_pos h1]; rfl
        · rw [accV, if_pos h2, if_pos h1]; rfl
        · rw [outO, if_neg h3]
    · refine Tl.ite (fun h3 => ?_) (fun h3 => ?_)
      · refine Tl.ld8 ?_
        refine Tl.ld8 ?_
        refine Tl.ld6 ?_
        refine Tl.st6 ?_
        refine Tl.done hQ hW ?_ ?_ ?_
        · rw [accU, if_pos h1]; rfl
        · rw [accV, if_neg h2, if_pos h1]
        · rw [outO, if_pos h3, accU, accV, if_pos h1, if_neg h2, if_pos h1]; rfl
      · refine Tl.done hQ hW ?_ ?_ ?_
        · rw [accU, if_pos h1]; rfl
        · rw [accV, if_neg h2, if_pos h1]
        · rw [outO, if_neg h3]
  · refine Tl.ld8 ?_
    refine Tl.ld8 ?_
    refine Tl.st80 ?_
    refine Tl.ite2 (fun h2 => ?_) (fun h2 => ?_)
    · refine Tl.ld8 ?_
      refine Tl.ld8 ?_
      refine Tl.st81 ?_
      refine Tl.ite (fun h3 => ?_) (fun h3 => ?_)
      · refine Tl.ld8 ?_
        refine Tl.ld8 ?_
        refine Tl.ld6 ?_
        refine Tl.st6 ?_
        refine Tl.done hQ hW ?_ ?_ ?_
        · rw [accU, if_neg h1]; rfl
        · rw [accV, if_pos h2, if_neg h1]; rfl
        · rw [outO, if_pos h3, accU, accV, if_neg h1, if_pos h2, if_neg h1]; rfl
      · refine Tl.done hQ hW ?_ ?_ ?_
        · rw [accU, if_neg h1]; rfl
        · rw [accV, if_pos h2, if_neg h1]; rfl
        · rw [outO, if_neg h3]
    · refine Tl.ite (fun h3 => ?_) (fun h3 => ?_)
      · refine Tl.ld8 ?_
        refine Tl.ld8 ?_
        refine Tl.ld6 ?_
        refine Tl.st6 ?_
        refine Tl.done hQ hW ?_ ?_ ?_
        · rw [accU, if_neg h1]; rfl
        · rw [accV, if_neg h2, if_neg h1]
        · rw [outO, if_pos h3, accU, accV, if_neg h1, if_neg h2, if_neg h1]; rfl
      · refine Tl.done hQ hW ?_ ?_ ?_
        · rw [accU, if_neg h1]; rfl
        · rw [accV, if_neg h2, if_neg h1]
        · rw [outO, if_neg h3]

end Env

end Cert.Proof.PI

end
-- ==== Proof.PI.Run.lean ====
/-
  The idealized kernel's run: the accumulators from point to point, the body's obligation at every point, and the run of
  the whole program.
-/
module

public import proofs.«01_k».proof.Proof.Chain
public import proofs.«01_k».proof.Proof.PI.Tail
public import Idealize.ShloMosaic.Lib.Pipeline.FrameSuffix
public import Idealize.ShloMosaic.Lib.Pipeline.FrameBody
public import Idealize.ShloMosaic.Lib.Pipeline.Quiescent

@[expose] public section

set_option maxRecDepth 16384

noncomputable section

namespace Cert.Proof.PI

open Cert.KernelIdeal Cert.KernelIdeal.Gen Cert.Proof.Net
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## The accumulators -/

/-- The point of number `n`. -/
def pt (n : ℕ) : Fin cfg0.N := ⟨n % 320, Nat.lt_of_lt_of_eq (Nat.mod_lt _ (by decide)) N_0.symm⟩

/-- The point's projection `a`. -/
def proj (t : Fin cfg0.N) (a : Fin 10) : FVec F Pl .f32 :=
  projv (cfg0.grid.coords t) (iblk m c 0 t) (iblk m c 2 t) (iblk m c 3 t) a

/-- The point's sum of distances. -/
def tot (t : Fin cfg0.N) : F .f32 := total fun a => chain (proj m c t a)

/-- The accumulators after `n` points. -/
def accs : ℕ → F .f32 × F .f32
  | 0 => (Scalar.ofBits .f32 0x00000000#32, Scalar.ofBits .f32 0x00000000#32)
  | n + 1 => (accU (cfg0.grid.coords (pt n)) (iblk m c 1 (pt n)) (tot m c (pt n)) (accs n).1,
      accV (cfg0.grid.coords (pt n)) (iblk m c 1 (pt n)) (accs n).2)

/-- The point of a point's number is that point. -/
theorem pt_val (t : Fin cfg0.N) : pt t.val = t := by
  apply Fin.ext
  exact Nat.mod_eq_of_lt (Nat.lt_of_lt_of_eq t.isLt N_0)

/-- The accumulators after a point, from those before it. -/
theorem accs_succ (t : Fin cfg0.N) : accs m c (t.val + 1) = (accU (cfg0.grid.coords t) (iblk m c 1 t) (tot m c t) (accs m c t.val).1,
      accV (cfg0.grid.coords t) (iblk m c 1 t) (accs m c t.val).2) := by
  conv_lhs => unfold accs
  rw [pt_val]

/-- The first point starts the accumulators afresh. -/
theorem c1_zero : c1 (cfg0.grid.coords (pt 0)) := by decide

/-- The last point writes the result. -/
theorem c3_last : c3 (cfg0.grid.coords (pt 319)) := by decide

/-- The accumulators after a point, from any before the first. -/
theorem acc_step (t : Fin cfg0.N) (u v : F .f32) (h : t.val ≠ 0 → u = (accs m c t.val).1 ∧ v = (accs m c t.val).2) :
    accU (cfg0.grid.coords t) (iblk m c 1 t) (tot m c t) u = (accs m c (t.val + 1)).1
      ∧ accV (cfg0.grid.coords t) (iblk m c 1 t) v = (accs m c (t.val + 1)).2 := by
  rw [accs_succ]
  by_cases ht : t.val = 0
  · have h1 : c1 (cfg0.grid.coords t) := by rw [← pt_val t, ht]; exact c1_zero
    constructor
    · dsimp only; unfold accU; rw [if_pos h1, if_pos h1]
    · dsimp only; unfold accV; rw [if_pos h1, if_pos h1]
  · obtain ⟨rfl, rfl⟩ := h ht
    exact ⟨rfl, rfl⟩

/-! ## The proof data -/

/-- The scratch of the ten chains, and the accumulators' scratch after `n` points. -/
def Phi (n : ℕ) : sProp 𝕄 :=
  iprop((∃ X, owns (c : Thread nD τ) (Memref.whole cc0_scratch0) fullShare X)
    ∗ (∃ u v, ⌜n ≠ 0 → u = (accs m c n).1 ∧ v = (accs m c n).2⌝ ∗ owns (c : Thread nD τ) (Memref.whole cc0_scratch1) fullShare (pair u v))
    ∗ ∃ r, prngReg c r)

/-- The proof data of the pipeline on core `c`: the inputs' buffers as fetched, the result's at the last accumulators'
    quotient. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Scalar.divf (accs m c (t.val + 1)).1 (accs m c (t.val + 1)).2
    | ⟨_ + 5, h⟩ => absurd h (Nat.not_lt.2 (Nat.le_add_left _ _))
  Φ t := Phi m c t.val
  q _ := fullShare
  owed _ := 0

/-- The first window's buffer before a point. -/
theorem before_0 (t : Fin cfg0.N) (d) : (dats m 0 c).before 0 t d = iblk m c 0 t :=
  before0_0_of m (dats m 0 c) (by dsimp only [dats]) (fun _ => by dsimp only [dats]) t d
/-- The second window's buffer before a point. -/
theorem before_1 (t : Fin cfg0.N) (d) : (dats m 0 c).before 1 t d = iblk m c 1 t :=
  before0_1_of m (dats m 0 c) (by dsimp only [dats]) (fun _ => by dsimp only [dats]) t d
/-- The third window's buffer before a point. -/
theorem before_2 (t : Fin cfg0.N) (d) : (dats m 0 c).before 2 t d = iblk m c 2 t :=
  before0_2_of m (dats m 0 c) (by dsimp only [dats]) (fun _ => by dsimp only [dats]) t d
/-- The fourth window's buffer before a point. -/
theorem before_3 (t : Fin cfg0.N) (d) : (dats m 0 c).before 3 t d = iblk m c 3 t :=
  before0_3_of m (dats m 0 c) (by dsimp only [dats]) (fun _ => by dsimp only [dats]) t d

/-! ## The body's obligation -/

/-- The body's state at a point, the result's buffer holding `O` and the accumulators `u` and `v`. -/
def env (t : Fin cfg0.N) (O : S1.Idx → F .f32) (u v : F .f32) : Env F where
  d := c
  i := cfg0.grid.coords t
  arg2 := st0_0 t
  arg3 := st0_1 t
  arg4 := st0_2 t
  arg5 := st0_3 t
  arg6 := st0_4 t
  arg7 := Memref.whole cc0_scratch0
  arg8 := Memref.whole cc0_scratch1
  h2 := hstage0_0 ((cfg0.slots t 0).cast nbuf0_0)
  h3 := hstage0_1 ((cfg0.slots t 1).cast nbuf0_1)
  h4 := hstage0_2 ((cfg0.slots t 2).cast nbuf0_2)
  h5 := hstage0_3 ((cfg0.slots t 3).cast nbuf0_3)
  h6 := hstage0_4 ((cfg0.slots t 4).cast nbuf0_4)
  h7 := Memref.isWhole_whole _
  h8 := Memref.isWhole_whole _
  A2 := iblk m c 0 t
  A3 := iblk m c 1 t
  X4 := iblk m c 2 t
  X5 := iblk m c 3 t
  O := O
  a8 := pair u v
  Q W _ := iprop((∃ X', owns (c : Thread nD τ) (Memref.whole cc0_scratch0) fullShare X')
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare
      (outO (cfg0.grid.coords t) (accU (cfg0.grid.coords t) (iblk m c 1 t) (total W) u) (accV (cfg0.grid.coords t) (iblk m c 1 t) v) O)
    ∗ owns (c : Thread nD τ) (Memref.whole cc0_scratch1) fullShare
      (pair (accU (cfg0.grid.coords t) (iblk m c 1 t) (total W) u) (accV (cfg0.grid.coords t) (iblk m c 1 t) v)))

/-- What the body is to leave is what it leaves. -/
theorem env_leaves (t : Fin cfg0.N) (O : S1.Idx → F .f32) (u v : F .f32) : (env m c t O u v).Leaves u v := by
  intro W X'
  dsimp only [env]
  iintro ⟨H7, H2, H3, H4, H5, H6, H8⟩
  isplitl [H7]
  · iexists X'
    iexact H7
  iframe

/-- The body runs the steps. -/
theorem env_run (t : Fin cfg0.N) (O : S1.Idx → F .f32) (u v : F .f32) : (env m c t O u v).Run steps fun _ => bodyAt0 t :=
  Env.body (E := env m c t O u v) rfl (env_leaves m c t O u v)

/-- The body's projections are the point's. -/
theorem env_P (t : Fin cfg0.N) (O : S1.Idx → F .f32) (u v : F .f32) : (env m c t O u v).P = proj m c t := rfl

/-- The body leaves every plane at its chain. -/
theorem env_post (t : Fin cfg0.N) (O : S1.Idx → F .f32) (X : Sc.Idx → F .f32) (u v : F .f32) :
    iprop(owns ((env m c t O u v).d : Thread nD τ) (env m c t O u v).arg7 fullShare X ∗ (env m c t O u v).Rest)
      ⊢ WP (env m c t O u v).d (bodyAt0 t) ((env m c t O u v).Q fun a => chain (proj m c t a)) := by
  have h := env_run m c t O u v (fun a => plane (fun j => X ((rc a 32).toLoadRect.idx j))) X (Win.self X)
  rw [foldl_steps, env_P] at h
  exact h

/-- The body at a point, from what the windows and the scratches hold. -/
theorem sound (t : Fin cfg0.N) (O : S1.Idx → F .f32) (X : S10x192x128.Idx → F .f32) (u v : F .f32)
    (h : t.val ≠ 0 → u = (accs m c t.val).1 ∧ v = (accs m c t.val).2) :
    iprop(owns (c : Thread nD τ) (Memref.whole cc0_scratch0) fullShare X
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare O
      ∗ owns (c : Thread nD τ) (Memref.whole cc0_scratch1) fullShare (pair u v))
    ⊢ WP c (bodyAt0 t) fun _ => iprop((∃ X', owns (c : Thread nD τ) (Memref.whole cc0_scratch0) fullShare X')
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ owns (c : Thread nD τ) (st0_4 t) fullShare
        (outO (cfg0.grid.coords t) (accs m c (t.val + 1)).1 (accs m c (t.val + 1)).2 O)
      ∗ owns (c : Thread nD τ) (Memref.whole cc0_scratch1) fullShare (pair (accs m c (t.val + 1)).1 (accs m c (t.val + 1)).2)) := by
  obtain ⟨hu, hv⟩ := acc_step m c t u v h
  rw [← hu, ← hv]
  refine triple_restated (env_post m c t O X u v) rfl ?_ fun _ => ?_
  · unfold Env.Rest
    dsimp only [env]
    exact BI.Entails.refl _
  · dsimp only [env]
    exact BI.Entails.refl _

/-- At a point that is not the last the result's buffer is not written, and not written back. -/
theorem flush_c3 (t : Fin cfg0.N) (h : (cfg0.win 4).flush t = true) : c3 (cfg0.grid.coords t) := by
  have h1 := (flush0_4 t).mp h
  have h2 : t.val < 320 := Nat.lt_of_lt_of_eq t.isLt N_0
  exact pt_val t ▸ (show t.val = 319 by omega) ▸ c3_last

/-- What the body leaves in the result's buffer, as the obligation has it. -/
theorem out_post (t : Fin cfg0.N) (d : S1.Idx → F .f32) :
    (owns (c : Thread nD τ) (st0_4 t) fullShare
        (outO (cfg0.grid.coords t) (accs m c (t.val + 1)).1 (accs m c (t.val + 1)).2 ((dats m 0 c).before 4 t d)) : sProp 𝕄)
      ⊢ match cfg0.idle 4 (cfg0.grid.coords t) with
        | true => match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t) := by
  by_cases h3 : c3 (cfg0.grid.coords t)
  · rw [show cfg0.idle 4 (cfg0.grid.coords t) = false from by
      show (!(k0_cond3 (grid0.coords t) == 1#1)) = false
      rw [show k0_cond3 (grid0.coords t) = 1#1 from h3]; rfl]
    dsimp only [dats]
    rw [outO, if_pos h3]
    exact BI.Entails.refl _
  · rw [show cfg0.idle 4 (cfg0.grid.coords t) = true from by
      show (!(k0_cond3 (grid0.coords t) == 1#1)) = true
      rw [beq_eq_false_iff_ne.mpr h3]; rfl,
      show (cfg0.win 4).flush t = false from Bool.eq_false_iff.mpr fun h => h3 (flush_c3 t h)]
    dsimp only
    rw [outO, if_neg h3]
    iintro H
    iexists d
    iexact H

/-- The pipeline's body at a point is the kernel's. -/
theorem defs₀_row (t : Fin cfg0.N) : defs₀ (F := F) .tc cfg0.body (cfg0.bodyArgs t (cfg0.slots t)) = bodyAt0 t := by
  unfold defs₀; rw [Defs.onTc_tc]

/-- The invariant before a point. -/
theorem phi_cast (t : Fin cfg0.N) : (dats m 0 c).Φ t.castSucc = Phi m c t.val := by dsimp only [dats]; rfl
/-- The invariant after a point. -/
theorem phi_succ (t : Fin cfg0.N) : (dats m 0 c).Φ t.succ = Phi m c (t.val + 1) := by dsimp only [dats]; rfl

/-- The body keeps the invariant at every point. -/
theorem body_obligation : BodyObligation (dats m 0 c) (defs₀ (F := F)) Variants.none () Set.univ := fun t => by
  rw [bigSep_W0, bigSep_W0, phi_cast, phi_succ, defs₀_row,
    show (dats m 0 c).owesAt () t.succ = (dats m 0 c).owesAt () t.castSucc from rfl]
  simp only [before_0, before_1, before_2, before_3]
  unfold Phi
  iintro ⟨⟨⟨%X, H7⟩, ⟨%u, %v, %h, H8⟩, Hr⟩, Ho, ⟨%d0, H0⟩, ⟨%d1, H1⟩, ⟨%d2, H2⟩, ⟨%d3, H3⟩, ⟨%d4, H4⟩⟩
  iapply (wp_wand _ _ _) $$ [H7 H0 H1 H2 H3 H4 H8]
  · iapply (sound m c t ((dats m 0 c).before 4 t d4) X u v h)
    iframe
  iintro %_ ⟨H7, H0, H1, H2, H3, H4, H8⟩
  isplitl [H7 H8 Hr]
  · iframe
    iexists (accs m c (t.val + 1)).1, (accs m c (t.val + 1)).2
    isplitr
    · ipureintro; exact fun _ => ⟨rfl, rfl⟩
    iexact H8
  isplitl [Ho]; · iexact Ho
  isplitl [H0]; · iexact H0
  isplitl [H1]; · iexact H1
  isplitl [H2]; · iexact H2
  isplitl [H3]; · iexact H3
  iapply (out_post m c t d4)
  iexact H4

/-! ## The run -/

/-- A buffer is owned through its whole memref. -/
theorem to_owns (b : Ref sig .tc) (f : b.ty.Contents (Elt F)) :
    (((c : Thread nD τ).loc b) ↦{fullShare} f : sProp 𝕄) ⊢ owns (c : Thread nD τ) (Memref.whole b) fullShare f := by
  rw [owns_whole]
/-- The accumulators' buffer holds two numbers. -/
theorem to_pair (g : S2.Idx → F .f32) :
    (((c : Thread nD τ).loc cc0_scratch1) ↦{fullShare} g : sProp 𝕄)
      ⊢ owns (c : Thread nD τ) (Memref.whole cc0_scratch1) fullShare (pair (g (i2 0)) (g (i2 1))) := by
  rw [← pair_self]
  exact to_owns c cc0_scratch1 g
/-- A memref of a whole buffer is that buffer. -/
theorem of_owns (b : Ref sig .tc) (f : b.ty.Contents (Elt F)) :
    (owns (c : Thread nD τ) (Memref.whole b) fullShare f : sProp 𝕄) ⊢ (((c : Thread nD τ).loc b) ↦{fullShare} f) := by
  rw [owns_whole]

/-- The run's post: what the library computes of the arrays, and of the host lines after the region. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (fun c => (body_obligation m c).loose) (fun c w => (dats m 0 c).share_full (fun _ => rfl) w) (fun _ _ => rfl) (V0 m) [hostOps1]
    sfx_sub sfx_fresh sfx_keeps (hmain m Variants.none) (fun _ _ => rfl)
    (hin := fun c => by
      show _ ⊢ Phi m c 0
      unfold Pipeline.ΦA Phi
      rw [scopedRest0_eq]
      iintro ⟨⟨⟨%f, H7⟩, ⟨%g, H8⟩⟩, Hr⟩
      isplitl [H7]
      · iexists f
        iapply (to_owns c cc0_scratch0 f)
        iexact H7
      isplitl [H8]
      · iexists (g (i2 0)), (g (i2 1))
        isplitr
        · ipureintro; exact fun h => absurd rfl h
        iapply (to_pair c g)
        iexact H8
      iexact Hr)
    (hout := fun c => by
      show Phi m c (Fin.last cfg0.N).val ⊢ _
      unfold Pipeline.ΦA Phi
      rw [scopedRest0_eq]
      iintro ⟨⟨%X, H7⟩, ⟨%u, %v, -, H8⟩, Hr⟩
      isplitr [Hr]
      · isplitl [H7]
        · iexists X
          iapply (of_owns c cc0_scratch0 X)
          iexact H7
        iexists (pair u v)
        iapply (of_owns c cc0_scratch1 (pair u v))
        iexact H8
      iexact Hr)
    (Q' := fun r => Pipeline.FramePost cfgs (dats m) 0 (Pipeline.afterTail₀ cfgs (dats m) 0 (V0 m) [hostOps1]) r ∧ r.2.sem = fun _ => 0)
    (hQ' := fun _ h => h)

end Cert.Proof.PI

end
-- ==== Proof.RI.Ops.lean ====
/-
  The reference's operations. Its @main is host operations only, some of them inside module-local functions; the operations
  are read off the printed text function by function (`Line`), with the three facts a run needs of each of them: it
  touches the TensorCore's buffers only, allocates nothing, and writes none of the three arguments.
-/
module

public import proofs.«01_k».proof.ReferenceIdeal
public import proofs.«01_k».proof.Proof.Gen.ReferenceIdeal
public import Idealize.ShloMosaic.Lib.StableHlo.RunHlo

@[expose] public section

noncomputable section

namespace Cert.Proof.RI

open Cert.ReferenceIdeal Cert.ReferenceIdeal.Gen
open Idealize.ShloMosaic Idealize.ShloMosaic.TcCoe Idealize.SL.Sem Idealize.ShloMosaic.StableHlo

section Line

variable {nD : Nat} {τ : Topo} {sig : RefSig} {Val : EltTy → Type} {Λ : Labels}

/-- What a run asks of an operation: TensorCore buffers only, nothing allocated, no buffer numbered below 3 written. -/
def Good (op : HloOp τ sig Val) : Prop :=
  op.bufs ⊆ tcRefs τ sig ∧ op.fresh = ∅ ∧ ∀ r : Ref sig .tc, r.idx.val < 3 → Proc.devRef .tc r ∉ op.writes

/-- The program `p` is the straight line of the operations `ops`, each of them good. -/
structure Line (p : Prog (TpuEff nD τ sig Val Λ .tc) PUnit) (ops : List (HloOp τ sig Val)) : Prop where
  seq : IsSeq p ops
  good : ∀ op ∈ ops, Good op

/-- An operation writing the one buffer `y`, numbered 3 or more, writes none numbered below 3. -/
theorem not_mem_of_writes {op : HloOp τ sig Val} {y : Ref sig .tc} (h : op.writes = {Proc.devRef .tc y})
    (hy : 3 ≤ y.idx.val) (r : Ref sig .tc) (hr : r.idx.val < 3) : Proc.devRef .tc r ∉ op.writes := by
  rw [h, Finset.mem_singleton]
  intro e
  rw [Proc.devRef_injective _ e] at hr
  omega

/-- The empty program is the empty line. -/
theorem Line.nil : Line (nD := nD) (Λ := Λ) (pure ⟨⟩ : Prog (TpuEff nD τ sig Val Λ .tc) PUnit) ([] : List (HloOp τ sig Val)) :=
  ⟨IsSeq.nil, fun _ h => absurd h List.not_mem_nil⟩

/-- A good operation before a line is a line. -/
theorem Line.cons {op : HloOp τ sig Val} {k : Prog (TpuEff nD τ sig Val Λ .tc) PUnit} {ops : List (HloOp τ sig Val)}
    (h : Good op) (hk : Line k ops) : Line ((hlo rfl op fun _ => .ret (⟨⟩ : PUnit)) >>= fun _ => k) (op :: ops) :=
  ⟨IsSeq.cons hk.seq, List.forall_mem_cons.mpr ⟨h, hk.good⟩⟩

/-- Two lines one after the other are a line. -/
theorem Line.bind {p k : Prog (TpuEff nD τ sig Val Λ .tc) PUnit} {a b : List (HloOp τ sig Val)}
    (hp : Line p a) (hk : Line k b) : Line (p >>= fun _ => k) (a ++ b) :=
  ⟨by have h₁ := hp.seq; have h₂ := hk.seq; unfold IsSeq at *; rw [seq_append, h₁, h₂],
   fun op h => (List.mem_append.mp h).elim (hp.good op) (hk.good op)⟩

variable {k : Prog (TpuEff nD τ sig Val Λ .tc) PUnit} {ops : List (HloOp τ sig Val)}

/-- A constant before a line. -/
theorem Line.nullary {y : Ref sig .tc} {v : y.ty.Contents Val} {hy} (h3 : 3 ≤ y.idx.val) (hk : Line k ops) :
    Line ((hlo rfl (StableHlo.nullary (τ := τ) y v hy) fun _ => .ret (⟨⟩ : PUnit)) >>= fun _ => k) (StableHlo.nullary y v hy :: ops) :=
  .cons ⟨nullary_bufs_sub .., rfl, not_mem_of_writes rfl h3⟩ hk

/-- An operation of one operand before a line. -/
theorem Line.unary {x y : Ref sig .tc} {f : x.ty.Contents Val → y.ty.Contents Val} {hx hy} (h3 : 3 ≤ y.idx.val) (hk : Line k ops) :
    Line ((hlo rfl (StableHlo.unary (τ := τ) x y f hx hy) fun _ => .ret (⟨⟩ : PUnit)) >>= fun _ => k)
      (StableHlo.unary x y f hx hy :: ops) :=
  .cons ⟨unary_bufs_sub .., rfl, not_mem_of_writes rfl h3⟩ hk

/-- An operation of two operands before a line. -/
theorem Line.binary {a b y : Ref sig .tc} {f : a.ty.Contents Val → b.ty.Contents Val → y.ty.Contents Val} {ha hb hy}
    (h3 : 3 ≤ y.idx.val) (hk : Line k ops) :
    Line ((hlo rfl (StableHlo.binary (τ := τ) a b y f ha hb hy) fun _ => .ret (⟨⟩ : PUnit)) >>= fun _ => k)
      (StableHlo.binary a b y f ha hb hy :: ops) :=
  .cons ⟨binary_bufs_sub .., rfl, not_mem_of_writes rfl h3⟩ hk

/-- A reshape before a line. -/
theorem Line.reshape {x y : Ref sig .tc} {he hn hx hy} (h3 : 3 ≤ y.idx.val) (hk : Line k ops) :
    Line ((hlo rfl (StableHlo.reshape (Val := Val) (τ := τ) x y he hn hx hy) fun _ => .ret (⟨⟩ : PUnit)) >>= fun _ => k)
      (StableHlo.reshape x y he hn hx hy :: ops) :=
  .cons ⟨reshape_bufs_sub .., rfl, not_mem_of_writes rfl h3⟩ hk

variable {T Ta Tb Ty : BufTy}

/-- A constant of a function's body before a line. -/
theorem Line.tnullary {y : TRef sig Ty} {v : Ty.Contents Val} (h3 : 3 ≤ y.ref.idx.val) (hk : Line k ops) :
    Line ((hlo rfl (TRef.nullary (τ := τ) y v) fun _ => .ret (⟨⟩ : PUnit)) >>= fun _ => k) (TRef.nullary y v :: ops) :=
  Line.nullary h3 hk

/-- An operation of one operand of a function's body before a line. -/
theorem Line.tunary {x : TRef sig T} {y : TRef sig Ty} {f : T.Contents Val → Ty.Contents Val} (h3 : 3 ≤ y.ref.idx.val) (hk : Line k ops) :
    Line ((hlo rfl (TRef.unary (τ := τ) x y f) fun _ => .ret (⟨⟩ : PUnit)) >>= fun _ => k) (TRef.unary x y f :: ops) :=
  Line.unary h3 hk

/-- An operation of two operands of a function's body before a line. -/
theorem Line.tbinary {a : TRef sig Ta} {b : TRef sig Tb} {y : TRef sig Ty} {f : Ta.Contents Val → Tb.Contents Val → Ty.Contents Val}
    (h3 : 3 ≤ y.ref.idx.val) (hk : Line k ops) :
    Line ((hlo rfl (TRef.binary (τ := τ) a b y f) fun _ => .ret (⟨⟩ : PUnit)) >>= fun _ => k) (TRef.binary a b y f :: ops) :=
  Line.binary h3 hk

/-- A reshape of a function's body before a line. -/
theorem Line.treshape {x : TRef sig T} {y : TRef sig Ty} {he : T.elt = Ty.elt} {hn : T.shape.ShapeCasts Ty.shape}
    (h3 : 3 ≤ y.ref.idx.val) (hk : Line k ops) :
    Line ((hlo rfl (TRef.reshape (Val := Val) (τ := τ) x y he hn) fun _ => .ret (⟨⟩ : PUnit)) >>= fun _ => k) (TRef.reshape x y he hn :: ops) :=
  Line.reshape h3 hk

end Line

variable {F : FTy → Type} [FloatOps F]

/-- The operations of the threefry rounds, first part. -/
def fry0 : {ops : List (HloOp τ sig (Elt F)) // Line (fn_threefry2x32.body_part0 main_call0.v5 main_call0.v7 main_call0.v26 main_call0.v25 main_call0.call0) ops} := by
  apply Subtype.mk
  unfold fn_threefry2x32.body_part0
  repeat first
    | exact Line.nil
    | with_reducible apply Line.tunary (by decide)
    | with_reducible apply Line.tbinary (by decide)
    | with_reducible apply Line.tnullary (by decide)
    | apply Line.tbinary (by decide)

/-- The operations of the threefry rounds, second part. -/
def fry1 : {ops : List (HloOp τ sig (Elt F)) // Line (fn_threefry2x32.body_part1 main_call0.v5 main_call0.v7 main_call0.v26 main_call0.v25 main_call0.call0) ops} := by
  apply Subtype.mk
  unfold fn_threefry2x32.body_part1
  repeat first
    | exact Line.nil
    | with_reducible apply Line.tunary (by decide)
    | with_reducible apply Line.tbinary (by decide)
    | with_reducible apply Line.tnullary (by decide)
    | apply Line.tbinary (by decide)

/-- The operations of the threefry rounds, third part. -/
def fry2 : {ops : List (HloOp τ sig (Elt F)) // Line (fn_threefry2x32.body_part2 main_call0.v5 main_call0.v7 main_call0.v26 main_call0.v25 main_call0.call0) ops} := by
  apply Subtype.mk
  unfold fn_threefry2x32.body_part2
  repeat first
    | exact Line.nil
    | with_reducible apply Line.tunary (by decide)
    | with_reducible apply Line.tbinary (by decide)
    | with_reducible apply Line.tnullary (by decide)
    | apply Line.tbinary (by decide)

/-- The operations of the threefry rounds, last part. -/
def fry3 : {ops : List (HloOp τ sig (Elt F)) // Line (fn_threefry2x32.body_part3 main_call0.v5 main_call0.v7 main_call0.v26 main_call0.v25 main_call0.call0) ops} := by
  apply Subtype.mk
  unfold fn_threefry2x32.body_part3
  repeat first
    | exact Line.nil
    | with_reducible apply Line.tunary (by decide)
    | with_reducible apply Line.tbinary (by decide)
    | with_reducible apply Line.tnullary (by decide)
    | apply Line.tbinary (by decide)

/-- The operations of the random bits' generator: the four parts, one after the other. -/
def fry : {ops : List (HloOp τ sig (Elt F)) // Line (fn_threefry2x32.body main_call0.v5 main_call0.v7 main_call0.v26 main_call0.v25 main_call0.call0) ops} :=
  ⟨fry0.1 ++ (fry1.1 ++ (fry2.1 ++ fry3.1)), fry0.2.bind (fry1.2.bind (fry2.2.bind fry3.2))⟩

/-- The operations of the uniform draw. -/
def uniform : {ops : List (HloOp τ sig (Elt F)) // Line (fn_uniform.body (.of main_v6) (.of main_cst) (.of main_cst_2) main_call0) ops} := by
  apply Subtype.mk
  unfold fn_uniform.body
  iterate 32 first
    | with_reducible apply Line.tunary (by decide)
    | with_reducible apply Line.tbinary (by decide)
    | with_reducible apply Line.tnullary (by decide)
    | with_reducible apply Line.treshape (by decide)
  apply Line.bind fry.2
  repeat first
    | exact Line.nil
    | with_reducible apply Line.tunary (by decide)
    | with_reducible apply Line.tbinary (by decide)
    | with_reducible apply Line.tnullary (by decide)

/-- The operations of the norm. -/
def norm : {ops : List (HloOp τ sig (Elt F)) // Line (fn_norm.body (.of main_v11) main_call1) ops} := by
  apply Subtype.mk
  unfold fn_norm.body
  repeat first
    | exact Line.nil
    | with_reducible apply Line.tunary (by decide)
    | with_reducible apply Line.tbinary (by decide)
    | with_reducible apply Line.tnullary (by decide)

/-- The operation of the first cloud's sort. -/
def sort₁ : {ops : List (HloOp τ sig (Elt F)) // Line (fn_sort.body (.of main_v19) main_call2) ops} := by
  apply Subtype.mk
  unfold fn_sort.body
  exact Line.unary (by decide) Line.nil

/-- The operation of the second cloud's sort. -/
def sort₂ : {ops : List (HloOp τ sig (Elt F)) // Line (fn_sort.body (.of main_v24) main_call3) ops} := by
  apply Subtype.mk
  unfold fn_sort.body
  exact Line.unary (by decide) Line.nil

end Cert.Proof.RI

end
-- ==== Proof.RI.Run.lean ====
/-
  The reference's run: @main's operations as one line, and what every buffer holds once they have run.
-/
module

public import proofs.«01_k».proof.Proof.RI.Ops

@[expose] public section

noncomputable section

namespace Cert.Proof.RI

open Cert.ReferenceIdeal Cert.ReferenceIdeal.Gen
open Idealize.ShloMosaic Idealize.ShloMosaic.TcCoe Idealize.SL.Sem Idealize.ShloMosaic.StableHlo

variable {F : FTy → Type} [FloatOps F]

section Split

variable {nD : Nat} {τ : Topo} {sig : RefSig} {Val : EltTy → Type} {Λ : Labels}

/-- The program `p` is the line of the operations `a` followed by that of `b`. -/
def Split (p : Prog (TpuEff nD τ sig Val Λ .tc) PUnit) (a b : List (HloOp τ sig Val)) : Prop := Line p (a ++ b)

variable {k : Prog (TpuEff nD τ sig Val Λ .tc) PUnit} {a b : List (HloOp τ sig Val)}

/-- A constant joins the first part. -/
theorem Split.nullary {y : Ref sig .tc} {v : y.ty.Contents Val} {hy} (h3 : 3 ≤ y.idx.val) (hk : Split k a b) :
    Split ((hlo rfl (StableHlo.nullary (τ := τ) y v hy) fun _ => .ret (⟨⟩ : PUnit)) >>= fun _ => k) (StableHlo.nullary y v hy :: a) b :=
  Line.nullary h3 hk

/-- An operation of one operand joins the first part. -/
theorem Split.unary {x y : Ref sig .tc} {f : x.ty.Contents Val → y.ty.Contents Val} {hx hy} (h3 : 3 ≤ y.idx.val) (hk : Split k a b) :
    Split ((hlo rfl (StableHlo.unary (τ := τ) x y f hx hy) fun _ => .ret (⟨⟩ : PUnit)) >>= fun _ => k)
      (StableHlo.unary x y f hx hy :: a) b := Line.unary h3 hk

/-- An operation of two operands joins the first part. -/
theorem Split.binary {u v y : Ref sig .tc} {f : u.ty.Contents Val → v.ty.Contents Val → y.ty.Contents Val} {hu hv hy}
    (h3 : 3 ≤ y.idx.val) (hk : Split k a b) :
    Split ((hlo rfl (StableHlo.binary (τ := τ) u v y f hu hv hy) fun _ => .ret (⟨⟩ : PUnit)) >>= fun _ => k)
      (StableHlo.binary u v y f hu hv hy :: a) b := Line.binary h3 hk

/-- A call joins the first part. -/
theorem Split.bind {p : Prog (TpuEff nD τ sig Val Λ .tc) PUnit} {l : List (HloOp τ sig Val)}
    (hp : Line p l) (hk : Split k a b) : Split (p >>= fun _ => k) (l ++ a) b := by
  unfold Split; rw [List.append_assoc]; exact hp.bind hk

/-- What is left is the second part. -/
theorem Split.rest (hk : Line k b) : Split k [] b := hk

end Split

/-- The operations of @main, in two parts: those that make the directions, and the rest. -/
structure Parts (d : Dev nD) where
  angles : List (HloOp τ sig (Elt F))
  rest : List (HloOp τ sig (Elt F))
  split : Split (main d) angles rest

/-- The two parts, read off the text. -/
def parts (d : Dev nD) : Parts (F := F) d := by
  apply Parts.mk
  unfold main
  iterate 12 first
    | apply Split.unary (by decide)
    | apply Split.binary (by decide)
    | apply Split.nullary (by decide)
  apply Split.bind uniform.2
  iterate 6 first
    | apply Split.unary (by decide)
    | apply Split.binary (by decide)
    | apply Split.nullary (by decide)
  apply Split.bind norm.2
  iterate 2 first
    | apply Split.unary (by decide)
    | apply Split.binary (by decide)
    | apply Split.nullary (by decide)
  apply Split.rest
  iterate 12 first
    | apply Line.unary (by decide)
    | apply Line.binary (by decide)
    | apply Line.nullary (by decide)
  apply Line.bind sort₁.2
  apply Line.bind sort₂.2
  repeat first
    | exact Line.nil
    | apply Line.unary (by decide)
    | apply Line.binary (by decide)
    | apply Line.nullary (by decide)

/-- The operations of @main. -/
def whole (d : Dev nD) : {ops : List (HloOp τ sig (Elt F)) // Line (main d) ops} := ⟨(parts d).angles ++ (parts d).rest, (parts d).split⟩

variable (m : (ℓ : Loc nD τ sig) → Buf (Elt F) ℓ) (ρ : Dev nD → PrngReg)

/-- The reference terminates, and leaves in every buffer what its operations, in order, make of the launch contents. -/
theorem run_main : θ_run defs (onTc (τ := τ) (main (F := F))) ⟨m, fun _ => 0, ρ⟩ fun r =>
    ∀ (d : Dev nD) (b : Ref sig .tc), r.2.mem ((d.tc : Thread nD τ).loc b) = after (whole d).1 (launchContents m d) (Proc.devRef .tc b) := by
  have hd : ∀ d : Dev nD, d = 0 := fun d => Subsingleton.elim d 0
  refine θ_run_mono (run_hlo defs main (ops := (whole 0).1) (fun d => by rw [hd d]; exact (whole 0).2.seq) (by decide) (by decide)
    (List.forall_iff_forall_mem.mpr fun op h => ((whole 0).2.good op h).1) (fun op h => ((whole 0).2.good op h).2.1) m ρ) ?_
  intro r h d b
  rw [h d b, hd d]

/-- An argument ends as it was launched. -/
theorem after_arg (d : Dev nD) (V : Valuation τ sig (Elt F)) (r : Ref sig .tc) (hr : r.idx.val < 3) :
    after (whole d).1 V (Proc.devRef .tc r) = V (Proc.devRef .tc r) :=
  after_of_forall_not_mem _ _ fun op h => ((whole d).2.good op h).2.2 r hr

end Cert.Proof.RI

end
-- ==== Proof.Frames.lean ====
/-
  The frames of the three programs, and the one rewrite of the kernel's idealization.
-/
module

public import proofs.«01_k».proof.Defs
public import proofs.«01_k».proof.Proof.P.Run
public import proofs.«01_k».proof.Proof.PI.Run
public import proofs.«01_k».proof.Proof.RI.Run
public import Idealize.ShloMosaic.Lib.Quiescent

@[expose] public section

noncomputable section

namespace Cert.Proof

open Idealize.ShloMosaic Idealize.ShloMosaic.TcCoe Idealize.SL.Sem

/-- The kernel terminates, leaves its arguments alone and every semaphore at zero. -/
theorem frame_p : Cert.quiescent_Kernel := fun m ρ _ =>
  (θ_run_with_sems (Cert.Kernel.Gen.frame_of m ρ (P.dats m) (fun _ _ => rfl)) (P.run_main m ρ))

/-- So does the idealized kernel. -/
theorem frame_pi : Cert.quiescent_KernelIdeal := fun m ρ _ =>
  (θ_run_with_sems (Cert.KernelIdeal.Gen.frame_of m ρ (PI.dats m) (fun _ _ => rfl)) (PI.run_main m ρ))

/-- So does the reference. -/
theorem frame_ri : Cert.quiescent_ReferenceIdeal := fun m ρ _ =>
  (θ_run Cert.ReferenceIdeal.defs _ _).mono (fun r h => ⟨fun c =>
      ⟨(h c _).trans (RI.after_arg c _ Cert.ReferenceIdeal.main_arg0 (by decide)),
       (h c _).trans (RI.after_arg c _ Cert.ReferenceIdeal.main_arg1 (by decide)),
       (h c _).trans (RI.after_arg c _ Cert.ReferenceIdeal.main_arg2 (by decide))⟩,
      Idealize.ShloMosaic.sem_eq_zero_of_no_sems (by decide) r.2⟩)
    (RI.run_main m ρ)

/-- The one constant named in the kernel's idealization is 1/819200. -/
theorem preserves : Cert.preserves_Kernel_KernelIdeal :=
  IdealRules.named_const.statement Cert.KernelIdeal.κ "inv_n_angles" .f32 0x35A3D70A#32 ((1 / 819200 : ℝ) : EReal) rfl

end Cert.Proof

end
-- ==== Proof.KFinal.lean ====
/-
  What the idealized kernel's program leaves in its result.
-/
module

public import proofs.«01_k».proof.Proof.PI.Run
public import Idealize.ShloMosaic.Lib.Pipeline.ValueKit
public import Idealize.ShloMosaic.Lib.StableHlo.RunRead

@[expose] public section

set_option maxRecDepth 16384

noncomputable section

namespace Cert.Proof.Value

open Cert.KernelIdeal Cert.KernelIdeal.Gen Cert.Proof.PI
open Idealize.ShloMosaic Idealize.ShloMosaic.TcCoe Idealize.ShloMosaic.StableHlo Idealize.SL.Sem

variable {F : FTy → Type} [FloatOps F] [Named F]
variable (m : (ℓ : Loc nD τ sig) → Buf (Elt F) ℓ) (ρ : Dev nD → PrngReg) (c : Dev nD)

/-- The result's window writes its array back once, after the last point. -/
theorem final_out : (dats m 0 c).arrAt 4 cfg0.N = fun _ => Scalar.divf (accs m c 320).1 (accs m c 320).2 := by
  refine (dats m 0 c).arrAt_eq_of_after_last 4 (pt 319) (by decide +kernel) _ fun j => ?_
  rfl

/-- The one line after the region makes a scalar of it. -/
theorem final_tail : Pipeline.afterTail₀ cfgs (dats m) 0 (V0 m) [hostOps1] c main_v24
    = fun _ => Scalar.divf (accs m c 320).1 (accs m c 320).2 := by
  unfold Pipeline.afterTail₀
  simp only [List.flatten_cons, List.flatten_nil, List.append_nil]
  after_reads_simp
  funext i
  have h := Pipeline.withArrays_arr spec0 (by decide) c (V0 m c) (fun w => (dats m 0 c).arrAt w cfg0.N) 4
  refine (congrArg (fun X : S1.Idx → F .f32 => shapeCast S_ X shapeCasts_S1_S_ i) (h.trans (final_out m c))).trans ?_
  rfl

/-- The idealized kernel's run, with its result. -/
theorem run : θ_run defs (onTc (τ := τ) (main (F := F))) ⟨m, fun _ => 0, ρ⟩ fun r => ∀ c : Dev nD,
    r.2.mem ((c.tc : Thread nD τ).loc main_v24) = (fun _ => Scalar.divf (accs m c 320).1 (accs m c 320).2 : S_.Idx → F .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c =>
    ⟨((h.1 c).2 main_v24 (Pipeline.mem_restRefs_of main_v24 (by decide) (by decide))).trans (final_tail m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 1).trans (((dats m 0 c).arrAt_in 1 rfl _).trans (V_main_arg2 m c))⟩) (run_main m ρ)

end Cert.Proof.Value

end
-- ==== Proof.Lock.lean ====
/-
  Two straight lines of host operations in lockstep. Two programs with different signatures that number their
  buffers alike and run the same operations hold the same values in the buffers numbered alike: `Agree n` says so of
  the buffers numbered 3 to `n - 1`, and `Lock n l l' P` that running `l` and `l'` from such an agreement ends in `P`.
-/
module

public import Idealize.ShloMosaic.Lib.StableHlo.RunHlo

@[expose] public section

noncomputable section

namespace Cert.Proof.Lock

open Idealize.ShloMosaic Idealize.ShloMosaic.TcCoe Idealize.ShloMosaic.StableHlo

variable {τ τ' : Topo} {K R : RefSig} {Val : EltTy → Type}

/-- The buffers numbered from 3 to below `n` hold the same values in the two programs. -/
def Agree (n : ℕ) (V : Valuation τ K Val) (W : Valuation τ' R Val) : Prop :=
  ∀ (b : Ref K .tc) (b' : Ref R .tc), b.space = .hbm → b'.space = .hbm → b.idx.val = b'.idx.val →
    3 ≤ b.idx.val → b.idx.val < n → HEq (V (Proc.devRef .tc b)) (W (Proc.devRef .tc b'))

/-- Running the two lines takes agreement below `n` to `P`. -/
def Lock (n : ℕ) (l : List (HloOp τ K Val)) (l' : List (HloOp τ' R Val))
    (P : Valuation τ K Val → Valuation τ' R Val → Prop) : Prop :=
  ∀ V W, Agree n V W → P (after l V) (after l' W)

/-- A buffer of the two programs with the same number, below `n`, and the same type. -/
structure Twin (x : Ref K .tc) (x' : Ref R .tc) : Prop where
  hbm : x.space = .hbm
  hbm' : x'.space = .hbm
  num : x.idx.val = x'.idx.val
  pos : 3 ≤ x.idx.val
  ty : x.ty = x'.ty

/-- Equal functions of equal values are equal, whatever the types are called. -/
theorem heq_app {A A' B B' : Type} (hA : A = A') (hB : B = B') {f : A → B} {f' : A' → B'} (hf : HEq f f') {a : A} {a' : A'}
    (ha : HEq a a') : HEq (f a) (f' a') := by
  subst hA; subst hB; cases hf; cases ha; rfl

/-- The same of two arguments. -/
theorem heq_app₂ {A A' B B' C C' : Type} (hA : A = A') (hB : B = B') (hC : C = C') {f : A → B → C} {f' : A' → B' → C'}
    (hf : HEq f f') {a : A} {a' : A'} (ha : HEq a a') {b : B} {b' : B'} (hb : HEq b b') : HEq (f a b) (f' a' b') := by
  subst hA; subst hB; subst hC; cases hf; cases ha; cases hb; rfl

/-- Buffers of one space with one number are one buffer. -/
theorem ref_eq {S : RefSig} {x y : Ref S .tc} (hx : x.space = .hbm) (hy : y.space = .hbm) (h : x.idx.val = y.idx.val) : x = y := by
  obtain ⟨s, i, p⟩ := x
  obtain ⟨s', i', p'⟩ := y
  cases hx; cases hy
  obtain rfl : i = i' := Fin.ext h
  rfl

/-- One operation on each side, writing the twins `y` and `y'` numbered `n` with equal values, extends the agreement. -/
theorem Agree.step {n : ℕ} {V : Valuation τ K Val} {W : Valuation τ' R Val} (h : Agree n V W) {op : HloOp τ K Val} {op' : HloOp τ' R Val}
    {y : Ref K .tc} {y' : Ref R .tc} (hy : Twin y y') (hn : n = y.idx.val) (hw : op.writes = {Proc.devRef .tc y})
    (hw' : op'.writes = {Proc.devRef .tc y'})
    (he : HEq (op.result V (Proc.devRef .tc y)) (op'.result W (Proc.devRef .tc y'))) :
    Agree (y.idx.val + 1) (op.result V) (op'.result W) := by
  intro b b' hb hb' hbb h3 hlt
  rcases Nat.lt_succ_iff_lt_or_eq.mp hlt with hlt | heq
  · have h1 : b ≠ y := fun e => by rw [e] at hlt; omega
    have h2 : b' ≠ y' := fun e => by rw [e] at hbb; have := hy.num; omega
    rw [op.result_of_not_mem V (by rw [hw, Finset.mem_singleton]; exact devRef_ne_of_ne h1),
      op'.result_of_not_mem W (by rw [hw', Finset.mem_singleton]; exact devRef_ne_of_ne h2)]
    exact h b b' hb hb' hbb h3 (by omega)
  · obtain rfl := ref_eq hb hy.hbm heq
    obtain rfl := ref_eq hb' hy.hbm' (hbb.symm.trans hy.num)
    exact he

/-- What a twin numbered below `n` holds. -/
theorem Agree.at {n : ℕ} {V : Valuation τ K Val} {W : Valuation τ' R Val} (h : Agree n V W) {x : Ref K .tc} {x' : Ref R .tc}
    (hx : Twin x x') (hn : x.idx.val < n) : HEq (V (Proc.devRef .tc x)) (W (Proc.devRef .tc x')) :=
  h x x' hx.hbm hx.hbm' hx.num hx.pos hn

variable {l : List (HloOp τ K Val)} {l' : List (HloOp τ' R Val)} {n : ℕ}
  {P : Valuation τ K Val → Valuation τ' R Val → Prop}

/-- Nothing left on either side. -/
theorem Lock.nil (h : ∀ V W, Agree n V W → P V W) : Lock n ([] : List (HloOp τ K Val)) ([] : List (HloOp τ' R Val)) P := h

/-- What two stretches, one after the other, leave. -/
theorem after_app {S : RefSig} {τ : Topo} (a b : List (HloOp τ S Val)) (V : Valuation τ S Val) : after (a ++ b) V = after b (after a V) := by
  induction a generalizing V with
  | nil => rfl
  | cons op a ih => exact ih _

/-- The first operation of a stretch, brought to light on the left. -/
theorem Lock.consL {a r t : List (HloOp τ K Val)} {op : HloOp τ K Val} (h : a = op :: t) (hl : Lock n (op :: (t ++ r)) l' P) :
    Lock n (a ++ r) l' P := by rw [h]; exact hl

/-- The same on the right. -/
theorem Lock.consR {a r t : List (HloOp τ' R Val)} {op : HloOp τ' R Val} (h : a = op :: t) (hl : Lock n l (op :: (t ++ r)) P) :
    Lock n l (a ++ r) P := by rw [h]; exact hl

/-- A stretch run out on the left. -/
theorem Lock.doneL {a r : List (HloOp τ K Val)} (h : a = []) (hl : Lock n r l' P) : Lock n (a ++ r) l' P := by
  rw [h]; exact hl

/-- A stretch run out on the right. -/
theorem Lock.doneR {a r : List (HloOp τ' R Val)} (h : a = []) (hl : Lock n l r P) : Lock n l (a ++ r) P := by
  rw [h]; exact hl

/-- The same constant on both sides. -/
theorem Lock.nullary {y : Ref K .tc} {y' : Ref R .tc} {v : y.ty.Contents Val} {v' : y'.ty.Contents Val} {hy hy'}
    (ty : Twin y y') (hn : n = y.idx.val) (hf : HEq v v') (h : Lock (y.idx.val + 1) l l' P) :
    Lock n (StableHlo.nullary y v hy :: l) (StableHlo.nullary y' v' hy' :: l') P := fun V W hV =>
  h _ _ (hV.step ty hn rfl rfl (by rw [nullary_result', nullary_result']; exact hf))

/-- Reshapes of equal values are equal. -/
theorem reshape_heq {X Y X' Y' : BufTy} (hX : X = X') (hY : Y = Y') (he : X.elt = Y.elt) (he' : X'.elt = Y'.elt)
    (hn : X.shape.ShapeCasts Y.shape) (hn' : X'.shape.ShapeCasts Y'.shape) {v : X.Contents Val} {v' : X'.Contents Val} (h : HEq v v') :
    HEq (fun i => he ▸ shapeCast Y.shape v hn i : Y.Contents Val) (fun i => he' ▸ shapeCast Y'.shape v' hn' i : Y'.Contents Val) := by
  subst hX; subst hY; cases h; rfl

/-- A value of the two programs' function bodies: one buffer number, one type. -/
structure Pair {T T' : BufTy} (x : TRef K T) (x' : TRef R T') : Prop where
  hbm : x.ref.space = .hbm
  hbm' : x'.ref.space = .hbm
  num : x.ref.idx.val = x'.ref.idx.val
  pos : 3 ≤ x.ref.idx.val
  ty : T = T'

/-- Its buffers are twins. -/
theorem Pair.twin {T T' : BufTy} {x : TRef K T} {x' : TRef R T'} (h : Pair x x') : Twin x.ref x'.ref :=
  ⟨h.hbm, h.hbm', h.num, h.pos, x.ty_eq.trans (h.ty.trans x'.ty_eq.symm)⟩

variable {Ta Tb Ty Ta' Tb' Ty' : BufTy}

/-- Stored equal values are equal. -/
theorem toBuf_heq {T T' : BufTy} {x : TRef K T} {x' : TRef R T'} {v : T.Contents Val} {v' : T'.Contents Val} (h : HEq v v') :
    HEq (x.toBuf v) (x'.toBuf v') := (cast_heq _ _).trans (h.trans (cast_heq _ _).symm)

/-- Equal stored values read equal. -/
theorem ofBuf_heq {T T' : BufTy} {x : TRef K T} {x' : TRef R T'} {v : x.ref.ty.Contents Val} {v' : x'.ref.ty.Contents Val} (h : HEq v v') :
    HEq (x.ofBuf v) (x'.ofBuf v') := (cast_heq _ _).trans (h.trans (cast_heq _ _).symm)

/-- The same constant on both sides, at the values' types. -/
theorem Lock.tnullary {y : TRef K Ty} {y' : TRef R Ty'} {v : Ty.Contents Val} {v' : Ty'.Contents Val}
    (ty : Pair y y') (hn : n = y.ref.idx.val) (hf : HEq v v') (h : Lock (y.ref.idx.val + 1) l l' P) :
    Lock n (TRef.nullary y v :: l) (TRef.nullary y' v' :: l') P := Lock.nullary ty.twin hn (toBuf_heq hf) h

/-- The same operation of one operand on both sides, at the values' types. -/
theorem Lock.tunary {x : TRef K Ta} {y : TRef K Ty} {x' : TRef R Ta'} {y' : TRef R Ty'} {f : Ta.Contents Val → Ty.Contents Val}
    {f' : Ta'.Contents Val → Ty'.Contents Val} (tx : Pair x x') (ty : Pair y y') (lx : x.ref.idx.val < n)
    (hn : n = y.ref.idx.val) (hf : HEq f f') (h : Lock (y.ref.idx.val + 1) l l' P) :
    Lock n (TRef.unary x y f :: l) (TRef.unary x' y' f' :: l') P := fun V W hV =>
  h _ _ (hV.step ty.twin hn rfl rfl (by
    rw [unary_result', unary_result']
    exact toBuf_heq (heq_app (congrArg (BufTy.Contents Val) tx.ty) (congrArg (BufTy.Contents Val) ty.ty) hf
      (ofBuf_heq (hV.at tx.twin lx)))))

/-- The same operation of two operands on both sides, at the values' types. -/
theorem Lock.tbinary {a : TRef K Ta} {b : TRef K Tb} {y : TRef K Ty} {a' : TRef R Ta'} {b' : TRef R Tb'} {y' : TRef R Ty'}
    {f : Ta.Contents Val → Tb.Contents Val → Ty.Contents Val} {f' : Ta'.Contents Val → Tb'.Contents Val → Ty'.Contents Val}
    (ta : Pair a a') (tb : Pair b b') (ty : Pair y y') (la : a.ref.idx.val < n) (lb : b.ref.idx.val < n)
    (hn : n = y.ref.idx.val) (hf : HEq f f') (h : Lock (y.ref.idx.val + 1) l l' P) :
    Lock n (TRef.binary a b y f :: l) (TRef.binary a' b' y' f' :: l') P := fun V W hV =>
  h _ _ (hV.step ty.twin hn rfl rfl (by
    rw [binary_result', binary_result']
    exact toBuf_heq (heq_app₂ (congrArg (BufTy.Contents Val) ta.ty) (congrArg (BufTy.Contents Val) tb.ty)
      (congrArg (BufTy.Contents Val) ty.ty) hf (ofBuf_heq (hV.at ta.twin la)) (ofBuf_heq (hV.at tb.twin lb)))))

/-- A reshape on both sides, at the values' types. -/
theorem Lock.treshape {x : TRef K Ta} {y : TRef K Ty} {x' : TRef R Ta'} {y' : TRef R Ty'} {he : Ta.elt = Ty.elt}
    {hs : Ta.shape.ShapeCasts Ty.shape} {he' : Ta'.elt = Ty'.elt} {hs' : Ta'.shape.ShapeCasts Ty'.shape} (tx : Pair x x') (ty : Pair y y')
    (lx : x.ref.idx.val < n) (hn : n = y.ref.idx.val) (h : Lock (y.ref.idx.val + 1) l l' P) :
    Lock n (TRef.reshape x y he hs :: l) (TRef.reshape x' y' he' hs' :: l') P := fun V W hV =>
  h _ _ (hV.step ty.twin hn rfl rfl (by
    rw [reshape_result', reshape_result']
    exact reshape_heq tx.twin.ty ty.twin.ty _ _ _ _ (hV.at tx.twin lx)))

end Cert.Proof.Lock

end
-- ==== Proof.Angles.lean ====
/-
  The directions. Both programs draw them with the same operations on buffers numbered alike, from no argument at all:
  the two lists in lockstep end with equal directions, whatever the memories were.
-/
module

public import proofs.«01_k».proof.Proof.Lock
public import proofs.«01_k».proof.Proof.RI.Run
public import proofs.«01_k».proof.Proof.Gen.KernelIdeal.Launch

@[expose] public section

noncomputable section

namespace Cert.Proof.Angles

open Cert.KernelIdeal.Gen
open Idealize.ShloMosaic Idealize.ShloMosaic.TcCoe Idealize.ShloMosaic.StableHlo Cert.Proof.Lock

variable {F : FTy → Type} [FloatOps F] [Named F]

section Kernel

open Cert.KernelIdeal

/-- The key and the bounds of the draw, in the kernel. -/
abbrev seedK : List (HloOp τ sig (Elt F)) :=
  [ TRef.nullary (.of main_c : TRef sig ⟨S_, .i32⟩) (constantI S_ 32 42#32),
    TRef.nullary (.of main_c_0 : TRef sig ⟨S_, .i32⟩) (constantI S_ 32 32#32),
    TRef.binary (.of main_c : TRef sig ⟨S_, .i32⟩) (.of main_c_0 : TRef sig ⟨S_, .i32⟩) (.of main_v0 : TRef sig ⟨S_, .i32⟩)
      Host.shrui,
    TRef.unary (.of main_v0 : TRef sig ⟨S_, .i32⟩) (.of main_v1 : TRef sig ⟨S_, .i32⟩)
      id,
    TRef.unary (.of main_v1 : TRef sig ⟨S_, .i32⟩) (.of main_v2 : TRef sig ⟨S1, .i32⟩)
      (broadcastInDim S1 ![] bcast_S_S1),
    TRef.nullary (.of main_c_1 : TRef sig ⟨S_, .i32⟩) (constantI S_ 32 4294967295#32),
    TRef.binary (.of main_c : TRef sig ⟨S_, .i32⟩) (.of main_c_1 : TRef sig ⟨S_, .i32⟩) (.of main_v3 : TRef sig ⟨S_, .i32⟩)
      andi,
    TRef.unary (.of main_v3 : TRef sig ⟨S_, .i32⟩) (.of main_v4 : TRef sig ⟨S_, .i32⟩)
      id,
    TRef.unary (.of main_v4 : TRef sig ⟨S_, .i32⟩) (.of main_v5 : TRef sig ⟨S1, .i32⟩)
      (broadcastInDim S1 ![] bcast_S_S1),
    TRef.binary (.of main_v2 : TRef sig ⟨S1, .i32⟩) (.of main_v5 : TRef sig ⟨S1, .i32⟩) (.of main_v6 : TRef sig ⟨S2, .i32⟩)
      (fun a b => concatenate S2 0 [⟨S1, a⟩, ⟨S1, b⟩] concatenates_S1_S1_S2_d0),
    TRef.nullary (.of main_cst : TRef sig ⟨S_, .f32⟩) (constant S_ .f32 0x00000000#32),
    TRef.nullary (.of main_cst_2 : TRef sig ⟨S_, .f32⟩) (constant S_ .f32 0x3F800000#32) ]

/-- The draw brought to [-1, 1], in the kernel. -/
abbrev spreadK : List (HloOp τ sig (Elt F)) :=
  [ TRef.nullary (.of main_cst_3 : TRef sig ⟨S_, .f32⟩) (constant S_ .f32 0x40000000#32),
    TRef.unary (.of main_cst_3 : TRef sig ⟨S_, .f32⟩) (.of main_v8 : TRef sig ⟨S1x1x100x3, .f32⟩)
      (broadcastInDim S1x1x100x3 ![] bcast_S_S1x1x100x3),
    TRef.binary (.of main_v7 : TRef sig ⟨S1x1x100x3, .f32⟩) (.of main_v8 : TRef sig ⟨S1x1x100x3, .f32⟩) (.of main_v9 : TRef sig ⟨S1x1x100x3, .f32⟩)
      mulf,
    TRef.nullary (.of main_cst_4 : TRef sig ⟨S_, .f32⟩) (constant S_ .f32 0x3F800000#32),
    TRef.unary (.of main_cst_4 : TRef sig ⟨S_, .f32⟩) (.of main_v10 : TRef sig ⟨S1x1x100x3, .f32⟩)
      (broadcastInDim S1x1x100x3 ![] bcast_S_S1x1x100x3),
    TRef.binary (.of main_v9 : TRef sig ⟨S1x1x100x3, .f32⟩) (.of main_v10 : TRef sig ⟨S1x1x100x3, .f32⟩) (.of main_v11 : TRef sig ⟨S1x1x100x3, .f32⟩)
      subf ]

/-- Each direction divided by its norm, in the kernel. -/
abbrev unitK : List (HloOp τ sig (Elt F)) :=
  [ TRef.unary (.of main_v12 : TRef sig ⟨S1x1x100x1, .f32⟩) (.of main_v13 : TRef sig ⟨S1x1x100x3, .f32⟩)
      (broadcastInDim S1x1x100x3 ![0, 1, 2, 3] bcast_S1x1x100x1_S1x1x100x3_0_1_2_3),
    TRef.binary (.of main_v11 : TRef sig ⟨S1x1x100x3, .f32⟩) (.of main_v13 : TRef sig ⟨S1x1x100x3, .f32⟩) (.of main_v14 : TRef sig ⟨S1x1x100x3, .f32⟩)
      Host.divf ]

end Kernel

section Reference

open Cert.ReferenceIdeal

/-- The key and the bounds of the draw, in the reference. -/
abbrev seedR : List (HloOp τ sig (Elt F)) :=
  [ TRef.nullary (.of main_c : TRef sig ⟨S_, .i32⟩) (constantI S_ 32 42#32),
    TRef.nullary (.of main_c_0 : TRef sig ⟨S_, .i32⟩) (constantI S_ 32 32#32),
    TRef.binary (.of main_c : TRef sig ⟨S_, .i32⟩) (.of main_c_0 : TRef sig ⟨S_, .i32⟩) (.of main_v0 : TRef sig ⟨S_, .i32⟩)
      Host.shrui,
    TRef.unary (.of main_v0 : TRef sig ⟨S_, .i32⟩) (.of main_v1 : TRef sig ⟨S_, .i32⟩)
      id,
    TRef.unary (.of main_v1 : TRef sig ⟨S_, .i32⟩) (.of main_v2 : TRef sig ⟨S1, .i32⟩)
      (broadcastInDim S1 ![] bcast_S_S1),
    TRef.nullary (.of main_c_1 : TRef sig ⟨S_, .i32⟩) (constantI S_ 32 4294967295#32),
    TRef.binary (.of main_c : TRef sig ⟨S_, .i32⟩) (.of main_c_1 : TRef sig ⟨S_, .i32⟩) (.of main_v3 : TRef sig ⟨S_, .i32⟩)
      andi,
    TRef.unary (.of main_v3 : TRef sig ⟨S_, .i32⟩) (.of main_v4 : TRef sig ⟨S_, .i32⟩)
      id,
    TRef.unary (.of main_v4 : TRef sig ⟨S_, .i32⟩) (.of main_v5 : TRef sig ⟨S1, .i32⟩)
      (broadcastInDim S1 ![] bcast_S_S1),
    TRef.binary (.of main_v2 : TRef sig ⟨S1, .i32⟩) (.of main_v5 : TRef sig ⟨S1, .i32⟩) (.of main_v6 : TRef sig ⟨S2, .i32⟩)
      (fun a b => concatenate S2 0 [⟨S1, a⟩, ⟨S1, b⟩] concatenates_S1_S1_S2_d0),
    TRef.nullary (.of main_cst : TRef sig ⟨S_, .f32⟩) (constant S_ .f32 0x00000000#32),
    TRef.nullary (.of main_cst_2 : TRef sig ⟨S_, .f32⟩) (constant S_ .f32 0x3F800000#32) ]

/-- The draw brought to [-1, 1], in the reference. -/
abbrev spreadR : List (HloOp τ sig (Elt F)) :=
  [ TRef.nullary (.of main_cst_3 : TRef sig ⟨S_, .f32⟩) (constant S_ .f32 0x40000000#32),
    TRef.unary (.of main_cst_3 : TRef sig ⟨S_, .f32⟩) (.of main_v8 : TRef sig ⟨S1x1x100x3, .f32⟩)
      (broadcastInDim S1x1x100x3 ![] bcast_S_S1x1x100x3),
    TRef.binary (.of main_v7 : TRef sig ⟨S1x1x100x3, .f32⟩) (.of main_v8 : TRef sig ⟨S1x1x100x3, .f32⟩) (.of main_v9 : TRef sig ⟨S1x1x100x3, .f32⟩)
      mulf,
    TRef.nullary (.of main_cst_4 : TRef sig ⟨S_, .f32⟩) (constant S_ .f32 0x3F800000#32),
    TRef.unary (.of main_cst_4 : TRef sig ⟨S_, .f32⟩) (.of main_v10 : TRef sig ⟨S1x1x100x3, .f32⟩)
      (broadcastInDim S1x1x100x3 ![] bcast_S_S1x1x100x3),
    TRef.binary (.of main_v9 : TRef sig ⟨S1x1x100x3, .f32⟩) (.of main_v10 : TRef sig ⟨S1x1x100x3, .f32⟩) (.of main_v11 : TRef sig ⟨S1x1x100x3, .f32⟩)
      subf ]

/-- Each direction divided by its norm, in the reference. -/
abbrev unitR : List (HloOp τ sig (Elt F)) :=
  [ TRef.unary (.of main_v12 : TRef sig ⟨S1x1x100x1, .f32⟩) (.of main_v13 : TRef sig ⟨S1x1x100x3, .f32⟩)
      (broadcastInDim S1x1x100x3 ![0, 1, 2, 3] bcast_S1x1x100x1_S1x1x100x3_0_1_2_3),
    TRef.binary (.of main_v11 : TRef sig ⟨S1x1x100x3, .f32⟩) (.of main_v13 : TRef sig ⟨S1x1x100x3, .f32⟩) (.of main_v14 : TRef sig ⟨S1x1x100x3, .f32⟩)
      Host.divf ]

end Reference

/-- The directions' operations in the kernel. -/
abbrev anglesK : List (HloOp Cert.KernelIdeal.τ Cert.KernelIdeal.sig (Elt F)) :=
  seedK ++ (hostOps0_1 ++ (spreadK ++ (hostOps0_3 ++ unitK)))

/-- The directions' operations in the reference. -/
abbrev anglesR : List (HloOp Cert.ReferenceIdeal.τ Cert.ReferenceIdeal.sig (Elt F)) :=
  seedR ++ (RI.uniform.1 ++ (spreadR ++ (RI.norm.1 ++ unitR)))

/-- The operations of the random bits, part by part. -/
theorem lock_fry {n : ℕ} {l : List (HloOp Cert.KernelIdeal.τ Cert.KernelIdeal.sig (Elt F))}
    {r : List (HloOp Cert.ReferenceIdeal.τ Cert.ReferenceIdeal.sig (Elt F))}
    {P : Valuation Cert.KernelIdeal.τ Cert.KernelIdeal.sig (Elt F) → Valuation Cert.ReferenceIdeal.τ Cert.ReferenceIdeal.sig (Elt F) → Prop}
    (h : Lock n l (RI.fry0.1 ++ (RI.fry1.1 ++ (RI.fry2.1 ++ (RI.fry3.1 ++ r)))) P) : Lock n l (RI.fry.1 ++ r) P := by
  rw [show (RI.fry (F := F)).1 = RI.fry0.1 ++ (RI.fry1.1 ++ (RI.fry2.1 ++ RI.fry3.1)) from rfl]
  simpa only [List.append_assoc] using h

set_option maxHeartbeats 4000000 in
set_option maxRecDepth 10000 in
/-- The directions' operations run in lockstep. -/
theorem lock : Lock 3 (anglesK (F := F)) (anglesR (F := F)) (Agree 300) := by
  repeat first
    | with_reducible apply Lock.tunary
      on_goal 1 => exact ⟨rfl, rfl, by decide, by decide, rfl⟩
      on_goal 1 => exact ⟨rfl, rfl, by decide, by decide, rfl⟩
      on_goal 1 => decide
      on_goal 1 => decide
      on_goal 1 => exact HEq.rfl
    | with_reducible apply Lock.tbinary
      on_goal 1 => exact ⟨rfl, rfl, by decide, by decide, rfl⟩
      on_goal 1 => exact ⟨rfl, rfl, by decide, by decide, rfl⟩
      on_goal 1 => exact ⟨rfl, rfl, by decide, by decide, rfl⟩
      on_goal 1 => decide
      on_goal 1 => decide
      on_goal 1 => decide
      on_goal 1 => exact HEq.rfl
    | with_reducible apply Lock.tnullary
      on_goal 1 => exact ⟨rfl, rfl, by decide, by decide, rfl⟩
      on_goal 1 => decide
      on_goal 1 => exact HEq.rfl
    | with_reducible apply Lock.treshape
      on_goal 1 => exact ⟨rfl, rfl, by decide, by decide, rfl⟩
      on_goal 1 => exact ⟨rfl, rfl, by decide, by decide, rfl⟩
      on_goal 1 => decide
      on_goal 1 => decide
    | with_reducible apply lock_fry
    | with_reducible apply Lock.doneL
      on_goal 1 => rfl
    | with_reducible apply Lock.doneR
      on_goal 1 => rfl
    | with_reducible apply Lock.consL
      on_goal 1 => rfl
    | with_reducible apply Lock.consR
      on_goal 1 => rfl
  exact Lock.nil fun V W h => h

end Cert.Proof.Angles

end
-- ==== Proof.KRead.lean ====
/-
  What the kernel's host lines before the region hand its windows: the directions, transposed, and the clouds, their
  points dealt out by lane and row.
-/
module

public import proofs.«01_k».proof.Proof.Angles
public import proofs.«01_k».proof.Proof.PI.Run
public import Idealize.ShloMosaic.Lib.Pointwise
public import Idealize.ShloMosaic.Lib.Pipeline.ValueKit
public import Idealize.ShloMosaic.Lib.StableHlo.RunRead

@[expose] public section

set_option maxRecDepth 16384

noncomputable section

namespace Cert.Proof.Value

open Cert.KernelIdeal Cert.KernelIdeal.Gen Cert.Proof.Net Cert.Proof.Angles
open Idealize.ShloMosaic Idealize.ShloMosaic.TcCoe Idealize.ShloMosaic.StableHlo

variable {F : FTy → Type} [FloatOps F] [Named F]

/-- The directions and the clouds laid out for the windows. -/
abbrev restK : List (HloOp τ sig (Elt F)) :=
  [ StableHlo.reshape main_v14 main_v15 (rfl : (.f32 : EltTy) = .f32) shapeCasts_S1x1x100x3_S100x3,
    StableHlo.unary main_v15 main_v16 ((transpose S3x100 [1, 0] · transposes_S100x3_S3x100_1_0) : (⟨S100x3, .f32⟩ : BufTy).Contents (Elt F) → (⟨S3x100, .f32⟩ : BufTy).Contents (Elt F)),
    StableHlo.unary main_arg0 main_v17 ((transpose S32x3x8192 [0, 2, 1] · transposes_S32x8192x3_S32x3x8192_0_2_1) : (⟨S32x8192x3, .f32⟩ : BufTy).Contents (Elt F) → (⟨S32x3x8192, .f32⟩ : BufTy).Contents (Elt F)),
    StableHlo.reshape main_v17 main_v18 (rfl : (.f32 : EltTy) = .f32) shapeCasts_S32x3x8192_S32x3x128x64,
    StableHlo.unary main_v18 main_v19 ((transpose S32x3x64x128 [0, 1, 3, 2] · transposes_S32x3x128x64_S32x3x64x128_0_1_3_2) : (⟨S32x3x128x64, .f32⟩ : BufTy).Contents (Elt F) → (⟨S32x3x64x128, .f32⟩ : BufTy).Contents (Elt F)),
    StableHlo.unary main_arg1 main_v20 ((transpose S32x3x8192 [0, 2, 1] · transposes_S32x8192x3_S32x3x8192_0_2_1) : (⟨S32x8192x3, .f32⟩ : BufTy).Contents (Elt F) → (⟨S32x3x8192, .f32⟩ : BufTy).Contents (Elt F)),
    StableHlo.reshape main_v20 main_v21 (rfl : (.f32 : EltTy) = .f32) shapeCasts_S32x3x8192_S32x3x128x64,
    StableHlo.unary main_v21 main_v22 ((transpose S32x3x64x128 [0, 1, 3, 2] · transposes_S32x3x128x64_S32x3x64x128_0_1_3_2) : (⟨S32x3x128x64, .f32⟩ : BufTy).Contents (Elt F) → (⟨S32x3x64x128, .f32⟩ : BufTy).Contents (Elt F)) ]

/-- The lines before the region are those that make the directions, then those. -/
theorem lines_eq : List.flatten [hostOps0, hostOps0_1, hostOps0_2, hostOps0_3, hostOps0_4] = anglesK (F := F) ++ restK := by
  have h0 : (hostOps0 : List (HloOp τ sig (Elt F))) = seedK := rfl
  have h2 : (hostOps0_2 : List (HloOp τ sig (Elt F))) = spreadK := rfl
  have h4 : (hostOps0_4 : List (HloOp τ sig (Elt F))) = unitK ++ restK := rfl
  rw [List.flatten_cons, List.flatten_cons, List.flatten_cons, List.flatten_cons, List.flatten_cons, List.flatten_nil, List.append_nil,
    h0, h2, h4]
  unfold anglesK
  rw [List.append_assoc, List.append_assoc, List.append_assoc, List.append_assoc]

variable (m : (ℓ : Loc nD τ sig) → Buf (Elt F) ℓ) (c : Dev nD)

/-- What the lines that make the directions leave. -/
def afterAngles : Valuation τ sig (Elt F) := after anglesK (fun b => m (c, b))

/-- The directions. -/
def dirs : S1x1x100x3.Idx → F .f32 := afterAngles m c (Proc.devRef .tc main_v14)

/-- The lines before the region, run from what the directions' lines leave. -/
theorem V0_eq : V0 m c = after restK (afterAngles m c) := by
  unfold V0 afterAngles
  rw [lines_eq, Lock.after_app]

/-- The first window's array: the directions, transposed. -/
theorem V_dirs : V m c main_v16 = transpose S3x100 [1, 0] (shapeCast S100x3 (dirs m c) shapeCasts_S1x1x100x3_S100x3) transposes_S100x3_S3x100_1_0 := by
  unfold V
  rw [V0_eq]
  after_reads_simp
  rfl

/-- A line does not write an argument. -/
theorem angles_arg0 : afterAngles m c (Proc.devRef .tc main_arg0) = m ((c : Thread nD τ).loc main_arg0) := by
  rw [← V_main_arg0 m c]
  unfold V
  rw [V0_eq]
  after_reads_simp
/-- A line does not write an argument. -/
theorem angles_arg1 : afterAngles m c (Proc.devRef .tc main_arg1) = m ((c : Thread nD τ).loc main_arg1) := by
  rw [← V_main_arg1 m c]
  unfold V
  rw [V0_eq]
  after_reads_simp

/-- The third window's array: the first cloud's points, dealt out by lane and row. -/
theorem V_first : V m c main_v19 = transpose S32x3x64x128 [0, 1, 3, 2] (shapeCast S32x3x128x64
    (transpose S32x3x8192 [0, 2, 1] (m ((c : Thread nD τ).loc main_arg0) : S32x8192x3.Idx → F .f32) transposes_S32x8192x3_S32x3x8192_0_2_1)
    shapeCasts_S32x3x8192_S32x3x128x64) transposes_S32x3x128x64_S32x3x64x128_0_1_3_2 := by
  rw [← angles_arg0 m c]
  unfold V
  rw [V0_eq]
  after_reads_simp
  rfl
/-- The fourth window's array: the second cloud's. -/
theorem V_second : V m c main_v22 = transpose S32x3x64x128 [0, 1, 3, 2] (shapeCast S32x3x128x64
    (transpose S32x3x8192 [0, 2, 1] (m ((c : Thread nD τ).loc main_arg1) : S32x8192x3.Idx → F .f32) transposes_S32x8192x3_S32x3x8192_0_2_1)
    shapeCasts_S32x3x8192_S32x3x128x64) transposes_S32x3x128x64_S32x3x64x128_0_1_3_2 := by
  rw [← angles_arg1 m c]
  unfold V
  rw [V0_eq]
  after_reads_simp
  rfl

/-! ## The windows' blocks -/

/-- The blocks' numbers, from point to point. -/
theorem idx0 (t : Fin cfg0.N) : win0_0.index t = ![0, 0] := rfl
/-- The weights' block is the whole array. -/
theorem idx1 (t : Fin cfg0.N) : win0_1.index t = ![0] := rfl
/-- The first cloud's block is that of the outer coordinate. -/
theorem idx2 (t : Fin cfg0.N) : win0_2.index t = ![(grid0.coords t 0).val, 0, 0, 0] := by
  show ![(BitVec.ofNat 32 (grid0.coords t 0).val).toNat, 0, 0, 0] = _
  rw [BitVec.toNat_ofNat, Nat.mod_eq_of_lt (Nat.lt_trans (grid0.coords t 0).isLt (by decide))]
/-- So is the second cloud's. -/
theorem idx3 (t : Fin cfg0.N) : win0_3.index t = ![(grid0.coords t 0).val, 0, 0, 0] := by
  show ![(BitVec.ofNat 32 (grid0.coords t 0).val).toNat, 0, 0, 0] = _
  rw [BitVec.toNat_ofNat, Nat.mod_eq_of_lt (Nat.lt_trans (grid0.coords t 0).isLt (by decide))]

/-- What the first window holds: the directions. -/
theorem iblk_dirs (t : Fin cfg0.N) (k : Fin 3) (a : Fin 100) : iblk m c 0 t (ix2 k a) = dirs m c (ix4 0 0 a k) := by
  have h : iblk m c 0 t (ix2 k a) = V m c main_v16 (ix2 k a) := by
    blk_ext [iblk, idx0 t]
  rw [h, V_dirs]
  pointwise

/-- What the second window holds: the weights. -/
theorem iblk_weights (t : Fin cfg0.N) : iblk m c 1 t = m ((c : Thread nD τ).loc main_arg2) := by
  funext j
  rw [← V_main_arg2 m c]
  blk_ext [iblk, idx1 t]

/-- What the third window holds: the points of the first cloud at the outer coordinate. -/
theorem iblk_first (t : Fin cfg0.N) (k : Fin 3) (r : Fin 64) (l : Fin 128) :
    iblk m c 2 t (ix4 0 k r l) = (m ((c : Thread nD τ).loc main_arg0) : S32x8192x3.Idx → F .f32)
      (ix3 ⟨(grid0.coords t 0).val, (grid0.coords t 0).isLt⟩ ⟨l.val * 64 + r.val, by omega⟩ k) := by
  have h : iblk m c 2 t (ix4 0 k r l) = V m c main_v19 (ix4 ⟨(grid0.coords t 0).val, (grid0.coords t 0).isLt⟩ k r l) := by
    blk_ext [iblk, idx2 t]
  rw [h, V_first]
  pointwise

/-- What the fourth window holds: the points of the second cloud there. -/
theorem iblk_second (t : Fin cfg0.N) (k : Fin 3) (r : Fin 64) (l : Fin 128) :
    iblk m c 3 t (ix4 0 k r l) = (m ((c : Thread nD τ).loc main_arg1) : S32x8192x3.Idx → F .f32)
      (ix3 ⟨(grid0.coords t 0).val, (grid0.coords t 0).isLt⟩ ⟨l.val * 64 + r.val, by omega⟩ k) := by
  have h : iblk m c 3 t (ix4 0 k r l) = V m c main_v22 (ix4 ⟨(grid0.coords t 0).val, (grid0.coords t 0).isLt⟩ k r l) := by
    blk_ext [iblk, idx3 t]
  rw [h, V_second]
  pointwise

end Cert.Proof.Value

end
-- ==== Proof.Sorted.lean ====
/-
  What the passes make of a plane, over the extended reals: each half of the plane is its projections in ascending order,
  for the passes are the stages of the bitonic network, its descending blocks negated.
-/
module

public import proofs.«01_k».proof.Proof.Chain
public import Idealize.ShloMosaic.Lib.SortNet.Sorts
public import Idealize.ShloMosaic.Lib.SortFacts
public import Idealize.ShloMosaic.Lib.IdealHost
public import Mathlib.Order.Interval.Finset.Fin

@[expose] public section

set_option maxRecDepth 16384

noncomputable section

namespace Cert.Proof.Net

open Idealize.ShloMosaic Idealize.ShloMosaic.SortNet

/-- The numbers of a half's elements. -/
abbrev N13 := Fin (2 ^ 13)

/-- Where element `i` of half `h` lies in a plane: row `i` modulo 64 of the half, lane `i / 64`. -/
def place (h : Fin 2) (i : N13) : Pl.Idx :=
  ix ⟨64 * h.val + i.val % 64, by have := h.isLt; have := Nat.mod_lt i.val (show 0 < 64 by decide); omega⟩
    ⟨i.val / 64, by have : i.val < 8192 := i.isLt; omega⟩

/-- A half of a plane, by its elements' numbers. -/
def half (h : Fin 2) (w : FVec Ideal Pl .f32) : N13 → EReal := fun i => w (place h i)

/-- A compare-exchange at distance `2 ^ s`, the smaller value to the earlier place. -/
def ex (s : ℕ) (f : N13 → EReal) : N13 → EReal := fun i =>
  if i.val.testBit s = false then min (f i) (f (partner 13 s i)) else max (f i) (f (partner 13 s i))

/-- A half with the elements negated whose number has bit `t` set. -/
def sg (t : ℕ) (f : N13 → EReal) : N13 → EReal := fun i => if i.val.testBit t = false then f i else -f i

/-- Changing the signs twice changes nothing. -/
theorem sg_sg (t : ℕ) (f : N13 → EReal) : sg t (sg t f) = f := by
  funext i
  unfold sg
  by_cases h : i.val.testBit t = false
  · rw [if_pos h, if_pos h]
  · rw [if_neg h, if_neg h, neg_neg]

/-- The low bits of an element's number are those of its row. -/
theorem place_row (h : Fin 2) (i : N13) (e : ℕ) (he : e < 6) : (place h i 0).val.testBit e = i.val.testBit e := by
  show (2 ^ 6 * h.val + i.val % 2 ^ 6).testBit e = _
  rw [Nat.testBit_two_pow_mul_add _ (Nat.mod_lt _ (by decide)), if_pos he, Nat.testBit_mod_two_pow]
  simp [he]

/-- The high bits are those of its lane. -/
theorem place_lane (h : Fin 2) (i : N13) (k : ℕ) : (place h i 1).val.testBit k = i.val.testBit (k + 6) := by
  show (i.val / 2 ^ 6).testBit k = _
  rw [Nat.testBit_div_two_pow]

/-- Two places of a plane are the same where their rows and lanes are. -/
theorem ix_congr {r r' l l' : Fin 128} (h0 : r.val = r'.val) (h1 : l.val = l'.val) : ix r l = ix r' l' := by
  rw [Fin.ext h0, Fin.ext h1]

/-- The partner along rows, and along lanes, is the partner in the half. -/
theorem rowx_place (e : Fin 6) (h : Fin 2) (i : N13) : rowx e (place h i) = place h (partner 13 e.val i) := by
  have he := e.isLt
  have hp := partner_val (p := 13) (s := e.val) (by omega) i
  refine ix_congr ?_ ?_
  · show (2 ^ 6 * h.val + i.val % 2 ^ 6) ^^^ 2 ^ e.val = 2 ^ 6 * h.val + (partner 13 e.val i).val % 2 ^ 6
    rw [hp]
    apply Nat.eq_of_testBit_eq
    intro t
    rw [Nat.testBit_xor, Nat.testBit_two_pow_mul_add _ (Nat.mod_lt _ (by decide)), Nat.testBit_two_pow_mul_add _ (Nat.mod_lt _ (by decide)),
      Nat.testBit_mod_two_pow, Nat.testBit_mod_two_pow, Nat.testBit_xor, Nat.testBit_two_pow]
    by_cases ht : t < 6
    · simp [ht]
    · have : ¬ e.val = t := by omega
      simp [ht, this]
  · show i.val / 2 ^ 6 = (partner 13 e.val i).val / 2 ^ 6
    rw [hp]
    apply Nat.eq_of_testBit_eq
    intro t
    rw [Nat.testBit_div_two_pow, Nat.testBit_div_two_pow, Nat.testBit_xor, Nat.testBit_two_pow]
    have : ¬ e.val = t + 6 := by omega
    simp [this]

/-- The lane partner's place is the place of the partner. -/
theorem lanex_place (k : Fin 7) (h : Fin 2) (i : N13) : lanex k (place h i) = place h (partner 13 (k.val + 6) i) := by
  have hk := k.isLt
  have hp := partner_val (p := 13) (s := k.val + 6) (by omega) i
  refine ix_congr ?_ ?_
  · show 2 ^ 6 * h.val + i.val % 2 ^ 6 = 2 ^ 6 * h.val + (partner 13 (k.val + 6) i).val % 2 ^ 6
    rw [hp]
    congr 1
    apply Nat.eq_of_testBit_eq
    intro t
    rw [Nat.testBit_mod_two_pow, Nat.testBit_mod_two_pow, Nat.testBit_xor, Nat.testBit_two_pow]
    by_cases ht : t < 6
    · have : ¬ k.val + 6 = t := by omega
      simp [this]
    · simp [ht]
  · show (i.val / 2 ^ 6) ^^^ 2 ^ k.val = (partner 13 (k.val + 6) i).val / 2 ^ 6
    rw [hp]
    apply Nat.eq_of_testBit_eq
    intro t
    rw [Nat.testBit_xor, Nat.testBit_div_two_pow, Nat.testBit_div_two_pow, Nat.testBit_xor, Nat.testBit_two_pow, Nat.testBit_two_pow]
    simp

/-- A compare-exchange of the plane along rows, or along lanes, is one of each half. -/
theorem half_ceRow (h : Fin 2) (e : Fin 6) (w : FVec Ideal Pl .f32) : half h (ceRow e w) = ex e.val (half h w) := by
  funext i
  show Scalar.select (maskv (bit e.val) (place h i)) (FloatOps.minimumf (w (place h i)) (w (rowx e (place h i))))
    (FloatOps.maximumf (w (place h i)) (w (rowx e (place h i)))) = _
  rw [select_iff (maskv_row (place h i) e.val e.isLt), place_row h i e.val e.isLt, rowx_place]
  rfl

/-- A compare-exchange along the lanes, on a half. -/
theorem half_ceLane (h : Fin 2) (k : Fin 7) (w : FVec Ideal Pl .f32) : half h (ceLane k w) = ex (k.val + 6) (half h w) := by
  funext i
  show Scalar.select (maskv (bit (k.val + 6)) (place h i)) (FloatOps.minimumf (w (place h i)) (w (lanex k (place h i))))
    (FloatOps.maximumf (w (place h i)) (w (lanex k (place h i)))) = _
  rw [select_iff (maskv_lane (place h i) k.val (by omega)), place_lane h i k.val, lanex_place]
  rfl

/-- The word of one. -/
theorem word_one : (Scalar.ofBits .f32 0x3F800000#32 : Ideal .f32) = (1 : EReal) := by
  rw [Ideal.ofBits_def]
  simp [Ideal.ofBits, Ideal.ieee, -EReal.coe_mul]
  norm_num
/-- The word of minus one. -/
theorem word_neg_one : (Scalar.ofBits .f32 0xBF800000#32 : Ideal .f32) = (-1 : EReal) := by
  rw [Ideal.ofBits_def]
  simp [Ideal.ofBits, Ideal.ieee, -EReal.coe_mul, -EReal.coe_neg]
  rw [show (-(8388608 * (2 ^ 23)⁻¹) : ℝ) = -1 by norm_num]
  rfl

/-- The sign of an element by bit `t` of its number. -/
theorem sgnv_place (h : Fin 2) (t : ℕ) (ht : t < 13) (i : N13) :
    sgnv (F := Ideal) (bit t) (place h i) = if i.val.testBit t = false then (1 : EReal) else -1 := by
  show Scalar.select (maskv (bit t) (place h i)) (Scalar.ofBits .f32 0x3F800000#32) (Scalar.ofBits .f32 0xBF800000#32) = _
  rw [word_one, word_neg_one]
  rcases Nat.lt_or_ge t 6 with h6 | h6
  · rw [select_iff (maskv_row (place h i) t h6), place_row h i t h6]
  · obtain ⟨k, rfl⟩ : ∃ k, t = k + 6 := ⟨t - 6, by omega⟩
    rw [select_iff (maskv_lane (place h i) k (by omega)), place_lane h i k]

/-- A change of signs, on a half. -/
theorem half_sgn (h : Fin 2) (t : ℕ) (ht : t < 13) (w : FVec Ideal Pl .f32) : half h (mulf w (sgnv (bit t))) = sg t (half h w) := by
  funext i
  show (w (place h i) : EReal) * sgnv (F := Ideal) (bit t) (place h i) = if i.val.testBit t = false then (w (place h i) : EReal) else -w (place h i)
  rw [sgnv_place h t ht]
  split_ifs
  · rw [mul_one]
  · rw [mul_neg, mul_one]

/-- Two changes of signs, on a half. -/
theorem half_sgn₂ (h : Fin 2) (s t : ℕ) (hs : s < 13) (ht : t < 13) (w : FVec Ideal Pl .f32) :
    half h (mulf w (mulf (sgnv (bit s)) (sgnv (bit t)))) = sg t (sg s (half h w)) := by
  rw [← half_sgn h s hs, ← half_sgn h t ht]
  funext i
  exact (mul_assoc (w (place h i) : EReal) (sgnv (F := Ideal) (bit s) (place h i)) (sgnv (F := Ideal) (bit t) (place h i))).symm

/-! ## The passes on a half -/

/-- What a pass makes of a half. -/
def Pass.hp : Pass → (N13 → EReal) → N13 → EReal
  | .proj, f => f
  | .row e, f => ex e.val f
  | .rowc s, f => sg (s + 1) (sg s (ex 0 f))
  | .rowl s, f => sg s (ex 0 f)
  | .lane k, f => ex (k.val + 6) f

/-- The passes whose signs are of bits of an element's number, the projection not among them. -/
def Pass.ok : Pass → Bool
  | .proj => false
  | .row _ => true
  | .rowc s => s < 12
  | .rowl s => s < 13
  | .lane _ => true

/-- A pass, on a half. -/
theorem half_fn (h : Fin 2) (q w : FVec Ideal Pl .f32) (p : Pass) (hp : p.ok = true) : half h (p.fn q w) = p.hp (half h w) := by
  cases p with
  | proj => exact absurd hp (by decide)
  | row e => exact half_ceRow h e w
  | rowc s =>
    have hs : s < 12 := of_decide_eq_true hp
    exact (half_sgn₂ h s (s + 1) (by omega) (by omega) _).trans (congrArg (fun f => sg (s + 1) (sg s f)) (half_ceRow h 0 w))
  | rowl s =>
    have hs : s < 13 := of_decide_eq_true hp
    exact (half_sgn h s hs _).trans (congrArg (sg s) (half_ceRow h 0 w))
  | lane k => exact half_ceLane h k w

/-- The passes, on a half. -/
theorem half_foldl (h : Fin 2) (q : FVec Ideal Pl .f32) (ps : List Pass) (hps : ps.all Pass.ok = true) (w : FVec Ideal Pl .f32) :
    half h (ps.foldl (fun w p => p.fn q w) w) = ps.foldl (fun f p => p.hp f) (half h w) := by
  induction ps generalizing w with
  | nil => rfl
  | cons p ps ih =>
    rw [List.all_cons, Bool.and_eq_true] at hps
    rw [List.foldl_cons, List.foldl_cons, ih hps.2, half_fn h q w p hps.1]

/-- The compare-exchanges at distances `2 ^ l` down to one. -/
def exs (l : ℕ) (f : N13 → EReal) : N13 → EReal := (List.range (l + 1)).reverse.foldl (fun f s => ex s f) f

/-- The passes on a half: thirteen rounds of compare-exchanges, the signs changed between them. -/
theorem passes_hp (f : N13 → EReal) :
    passes.tail.foldl (fun f p => p.hp f) (sg 1 f) =
      exs 12 (sg 12 (exs 11 (sg 12 (sg 11 (exs 10 (sg 11 (sg 10 (exs 9 (sg 10 (sg 9 (exs 8 (sg 9 (sg 8 (exs 7 (sg 8 (sg 7 (exs 6
        (sg 7 (sg 6 (exs 5 (sg 6 (sg 5 (exs 4 (sg 5 (sg 4 (exs 3 (sg 4 (sg 3 (exs 2 (sg 3 (sg 2 (exs 1 (sg 2 (sg 1
          (exs 0 (sg 1 f)))))))))))))))))))))))))))))))))))) := rfl

/-- A masked number is zero where the bit is clear. -/
theorem and_iff (i s : ℕ) : i &&& 2 ^ s = 0 ↔ i.testBit s = false := and_two_pow_eq_zero_iff_testBit i s

/-- A number's bit `t` is its partner's at a distance `2 ^ s` with `s ≠ t`; bit `s` is not. -/
theorem partner_testBit (s t : ℕ) (hs : s < 13) (i : N13) : (partner 13 s i).val.testBit t = (i.val.testBit t ^^ decide (s = t)) := by
  rw [partner_val hs, Nat.testBit_xor, Nat.testBit_two_pow]

/-- A compare-exchange of signed values is the network's stage of the values, descending where the sign is minus. -/
theorem ex_sg (l s : ℕ) (hs : s ≤ l) (hl : l < 13) (g : N13 → EReal) :
    ex s (sg (l + 1) g)
      = sg (l + 1) (Network.apply (stage 13 s fun i => (decide (i.val &&& 2 ^ (l + 1) = 0)) == false) g) := by
  have hs' : s < 13 := by omega
  set w : N13 → Bool := fun i => (decide (i.val &&& 2 ^ (l + 1) = 0)) == false with hw
  have hst : ∀ i : N13, (partner 13 s i).val.testBit (l + 1) = i.val.testBit (l + 1) := by
    intro i
    rw [partner_testBit s _ hs', decide_eq_false (by omega), Bool.xor_false]
  have hwi : ∀ i : N13, w i = i.val.testBit (l + 1) := by
    intro i
    have := and_iff i.val (l + 1)
    rw [hw]
    show ((decide (i.val &&& 2 ^ (l + 1) = 0)) == false) = _
    rcases hb : i.val.testBit (l + 1)
    · rw [decide_eq_true (this.mpr hb)]; rfl
    · rw [decide_eq_false (fun h => by rw [this.mp h] at hb; exact absurd hb (by decide))]; rfl
  funext i
  unfold ex sg
  rw [hst]
  rcases hb : i.val.testBit s
  · have h := (apply_stage hs' w g i ((and_iff _ _).mpr hb)).1
    rw [if_pos rfl, h, hwi]
    rcases hc : i.val.testBit (l + 1)
    · simp
    · simp [EReal.neg_strictAnti.antitone.map_max]
  · have hbp : (partner 13 s i).val.testBit s = false := by
      rw [partner_testBit s _ hs', hb, decide_eq_true rfl]; rfl
    have h := (apply_stage hs' w g (partner 13 s i) ((and_iff _ _).mpr hbp)).2
    rw [partner_partner hs'] at h
    rw [if_neg (by decide), h, hwi, hst]
    rcases hc : i.val.testBit (l + 1)
    · simp [max_comm]
    · simp [EReal.neg_strictAnti.antitone.map_min, max_comm]

/-- The compare-exchanges of a stage, one after the other. -/
theorem exs_fold (l : ℕ) (hl : l < 13) (S : List ℕ) (hS : ∀ s ∈ S, s ≤ l) (g : N13 → EReal) :
    S.foldl (fun f s => ex s f) (sg (l + 1) g)
      = sg (l + 1) (Network.apply (S.flatMap fun s => stage 13 s fun i => (decide (i.val &&& 2 ^ (l + 1) = 0)) == false) g) := by
  induction S generalizing g with
  | nil => rfl
  | cons s S ih =>
    rw [List.foldl_cons, ex_sg l s (hS s List.mem_cons_self) hl, ih (fun t ht => hS t (List.mem_cons_of_mem _ ht)),
      List.flatMap_cons, Network.apply_append]

/-- A round on signed values is the network's level on the values. -/
theorem exs_level (l : ℕ) (hl : l < 13) (g : N13 → EReal) :
    exs l (sg (l + 1) g) = sg (l + 1) (Network.apply (levelNet 13 false l) g) :=
  exs_fold l hl _ (fun s hs => by have := List.mem_range.mp (List.mem_reverse.mp hs); omega) g

/-- No number of a half has bit thirteen set. -/
theorem sg_top (g : N13 → EReal) : sg 13 g = g := by
  funext i
  exact if_pos (Nat.testBit_lt_two_pow i.isLt)

/-- The passes sort a half. -/
theorem passes_sort (f : N13 → EReal) : passes.tail.foldl (fun f p => p.hp f) (sg 1 f) = Network.apply (sortNet 13 false) f := by
  have h12 : ∀ g, exs 12 g = Network.apply (levelNet 13 false 12) g := fun g => by
    have := exs_level 12 (by decide) g
    rwa [sg_top, sg_top] at this
  rw [passes_hp, exs_level 0 (by decide), sg_sg, exs_level 1 (by decide), sg_sg, exs_level 2 (by decide), sg_sg, exs_level 3 (by decide), sg_sg,
    exs_level 4 (by decide), sg_sg, exs_level 5 (by decide), sg_sg, exs_level 6 (by decide), sg_sg, exs_level 7 (by decide), sg_sg,
    exs_level 8 (by decide), sg_sg, exs_level 9 (by decide), sg_sg, exs_level 10 (by decide), sg_sg, exs_level 11 (by decide), sg_sg,
    h12, sortNet_eq_levelsNet]
  simp only [levelsNet_succ, Network.apply_append]
  rfl

/-- Each half of a chain's plane is the half of the values the passes were given, signed by bit one, in ascending order. -/
theorem half_chain (h : Fin 2) (v : FVec Ideal Pl .f32) :
    half h (chain (mulf v (sgnv 2#32))) = Network.apply (sortNet 13 false) (half h v) := by
  unfold chain
  rw [half_foldl h _ passes.tail (by decide), show (2#32 : BitVec 32) = bit 1 from rfl, half_sgn h 1 (by decide), passes_sort]

/-! ## The host's sort -/

/-- The host's order is the extended reals'. -/
theorem sortedFrom_monotone {n : ℕ} (f : Fin n → EReal) (cmp : EReal → EReal → BitVec 1) (hc : ∀ a b, cmp a b = 1#1 ↔ a < b) :
    Monotone fun j => f (sortedFrom (fun k k' => cmp (f k) (f k') == 1#1) j) := by
  have hb : ∀ a b : Fin n, (cmp (f a) (f b) == 1#1) = decide (f a < f b) := fun a b => by
    rw [Bool.eq_iff_iff, beq_iff_eq, decide_eq_true_iff, hc]
  simp only [hb]
  intro i j hij
  rcases eq_or_lt_of_le hij with rfl | hlt
  · exact le_refl _
  have := sortedFrom_noInversion (fun k k' => decide (f k < f k')) (fun k k' => decide (f k < f k'))
    (fun a b h => decide_eq_false (not_lt.mpr (of_decide_eq_true h).le)) (fun _ _ h => h)
    (fun a b c h h' => decide_eq_false (not_lt.mpr ((not_lt.mp (of_decide_eq_false h')).trans (not_lt.mp (of_decide_eq_false h))))) i j hlt
  exact not_lt.mp (of_decide_eq_false this)

/-- Of two ascending arrangements of the same values neither is anywhere greater. -/
theorem arranged_le {n : ℕ} (g h : Fin n → EReal) (π : Equiv.Perm (Fin n)) (hg : Monotone g) (hh : Monotone h)
    (e : ∀ i, h i = g (π i)) (j : Fin n) : g j ≤ h j := by
  classical
  by_contra hlt
  rw [not_le] at hlt
  have h0 : (Finset.univ.filter fun i => h i ≤ h j).card = (Finset.univ.filter fun i => g i ≤ h j).card :=
    Finset.card_equiv π fun i => by simp [e i]
  have h1 : (Finset.Iic j).card ≤ (Finset.univ.filter fun i => h i ≤ h j).card :=
    Finset.card_le_card fun i hi => Finset.mem_filter.mpr ⟨Finset.mem_univ _, hh (Finset.mem_Iic.mp hi)⟩
  have h2 : (Finset.univ.filter fun i => g i ≤ h j).card ≤ (Finset.Iio j).card :=
    Finset.card_le_card fun i hi => Finset.mem_Iio.mpr (not_le.mp fun hji =>
      absurd (lt_of_lt_of_le hlt (hg hji)) (not_lt.mpr (Finset.mem_filter.mp hi).2))
  rw [Fin.card_Iic] at h1
  rw [Fin.card_Iio] at h2
  omega

/-- The network sorts. -/
theorem net_perm (f : N13 → EReal) : Monotone (Network.apply (sortNet 13 false) f)
    ∧ ∃ σ : Equiv.Perm N13, Network.apply (sortNet 13 false) f = f ∘ σ :=
  ⟨sortNet_apply_monotone 13 f, Network.exists_perm (sortNet 13 false) f⟩

/-- The host's sort is any ascending arrangement of the same values. -/
theorem sorted_eq {n : ℕ} (f g : Fin n → EReal) (cmp : EReal → EReal → BitVec 1) (hc : ∀ a b, cmp a b = 1#1 ↔ a < b)
    (hg : Monotone g) (σ : Equiv.Perm (Fin n)) (hσ : g = f ∘ σ) (j : Fin n) :
    f (sortedFrom (fun k k' => cmp (f k) (f k') == 1#1) j) = g j := by
  have h1 := sortedFrom_monotone f cmp hc
  let τ : Equiv.Perm (Fin n) := Equiv.ofBijective (sortedFrom fun k k' => cmp (f k) (f k') == 1#1)
    ⟨sortedFrom_injective _, sortedFrom_surjective _⟩
  have hτ : ∀ i, sortedFrom (fun k k' => cmp (f k) (f k') == 1#1) i = τ i := fun _ => rfl
  refine le_antisymm (arranged_le _ g (σ.trans τ.symm) h1 hg (fun i => ?_) j) (arranged_le g _ (τ.trans σ.symm) hg h1 (fun i => ?_) j)
  · rw [hσ, hτ]
    simp
  · rw [hσ, hτ]
    simp

/-- The network and the host's sort put the same values in the same order. -/
theorem sort_eq (f : N13 → EReal) (cmp : EReal → EReal → BitVec 1) (hc : ∀ a b, cmp a b = 1#1 ↔ a < b) (j : N13) :
    f (sortedFrom (fun k k' => cmp (f k) (f k') == 1#1) j) = Network.apply (sortNet 13 false) f j := by
  obtain ⟨h2, σ, hσ⟩ := net_perm f
  exact sorted_eq f _ cmp hc h2 σ hσ j

end Cert.Proof.Net

end
-- ==== Proof.Halves.lean ====
/-
  The kernel's distance over the extended reals: a sum over the places of a half, and each half of the projections.
-/
module

public import proofs.«01_k».proof.Proof.Sorted
public import Idealize.ShloMosaic.Lib.Pointwise
public import Idealize.ShloMosaic.Lib.KernelVsHost

@[expose] public section

set_option maxRecDepth 16384

noncomputable section

namespace Cert.Proof.Net

open Idealize.ShloMosaic Idealize.ShloMosaic.SortNet

/-- The distance between a plane's halves, place by place. -/
theorem dist_rows (w : FVec Ideal Pl .f32) :
    dist w = ∑ r : Fin 64, ∑ l : Fin 128, (FloatOps.absf (F := Ideal) (φ := .f32)
      (w (ix2 ⟨r.val, by omega⟩ l) - w (ix2 ⟨64 + r.val, by omega⟩ l) : EReal) : EReal) := by
  unfold dist
  pointwise

/-- The sum of the absolute differences of two families of values, each in ascending order. -/
def gap (f g : N13 → EReal) : EReal :=
  ∑ i : N13, (FloatOps.absf (F := Ideal) (φ := .f32) (Network.apply (sortNet 13 false) f i - Network.apply (sortNet 13 false) g i : EReal) : EReal)

/-- An absolute value is not negative, so no such sum is. -/
theorem absf_nonneg (x : EReal) : 0 ≤ (FloatOps.absf (F := Ideal) (φ := .f32) x : EReal) := by
  show 0 ≤ max x (-x)
  rcases le_total 0 x with h | h
  · exact le_max_of_le_left h
  · exact le_max_of_le_right (EReal.neg_nonneg.mpr h)
/-- The gap is not negative. -/
theorem gap_nonneg (f g : N13 → EReal) : 0 ≤ gap f g := Finset.sum_nonneg fun _ _ => absf_nonneg _

/-- The numbers of a half's elements, by lane and row. -/
def numbers : Fin 128 × Fin 64 ≃ N13 := finProdFinEquiv.trans (finCongr (by decide))

/-- The number of the element at a lane and row. -/
theorem numbers_val (l : Fin 128) (r : Fin 64) : (numbers (l, r)).val = r.val + 64 * l.val := rfl

/-- The place of the element so numbered. -/
theorem place_numbers (h : Fin 2) (l : Fin 128) (r : Fin 64) (hr : 64 * h.val + r.val < 128) :
    place h (numbers (l, r)) = ix2 ⟨64 * h.val + r.val, hr⟩ l := by
  have h0 : (numbers (l, r)).val % 64 = r.val := by rw [numbers_val]; omega
  have h1 : (numbers (l, r)).val / 64 = l.val := by rw [numbers_val]; omega
  funext b
  fin_cases b
  · exact Fin.ext (congrArg (64 * h.val + ·) h0)
  · exact Fin.ext h1

/-- The distance between a plane's halves, by the numbers of a half's elements. -/
theorem dist_half (w : FVec Ideal Pl .f32) :
    dist w = ∑ i : N13, (FloatOps.absf (F := Ideal) (φ := .f32) (half 0 w i - half 1 w i : EReal) : EReal) := by
  rw [dist_rows, Finset.sum_comm, ← Equiv.sum_comp numbers, Fintype.sum_prod_type]
  refine Finset.sum_congr rfl fun l _ => Finset.sum_congr rfl fun r _ => ?_
  unfold half
  rw [place_numbers 0 l r (by show 64 * 0 + r.val < 128; omega), place_numbers 1 l r (by show 64 * 1 + r.val < 128; omega)]
  have e0 : (⟨64 * (0 : Fin 2).val + r.val, by show 64 * 0 + r.val < 128; omega⟩ : Fin 128) = ⟨r.val, by omega⟩ :=
    Fin.ext (by show 64 * 0 + r.val = r.val; omega)
  rw [e0]
  rfl

/-- The distance the chain leaves is the gap of its halves' values. -/
theorem dist_chain (v : FVec Ideal Pl .f32) : dist (chain (mulf v (sgnv 2#32))) = gap (half 0 v) (half 1 v) := by
  rw [dist_half, half_chain, half_chain]
  rfl

/-- A half's element of one coordinate plane of a block. -/
def cell (i : N13) : Hf.Idx := ix2 ⟨i.val % 64, Nat.mod_lt _ (by decide)⟩ ⟨i.val / 64, by have : i.val < 8192 := i.isLt; omega⟩

/-- The halves of the two clouds' values one above the other are those clouds' values. -/
theorem half_cat_first (x y : FVec Ideal Hf .f32) :
    half 0 (concatenate Pl 0 [⟨Hf, x⟩, ⟨Hf, y⟩] (cat_ok : Shape.Concatenates [Hf, Hf] Pl 0)) = fun i => x (cell i) := by
  funext i
  unfold half
  pointwise
  have h0 : (place 0 i 0).val = i.val % 64 := by show 64 * 0 + i.val % 64 = _; omega
  have hlt := Nat.mod_lt i.val (show 0 < 64 by decide)
  rw [dif_pos (by omega)]
  exact congrArg x (congrArg₂ ix2 (Fin.ext h0) (Fin.ext rfl))
/-- The lower half of two clouds' values is the second cloud's. -/
theorem half_cat_second (x y : FVec Ideal Hf .f32) :
    half 1 (concatenate Pl 0 [⟨Hf, x⟩, ⟨Hf, y⟩] (cat_ok : Shape.Concatenates [Hf, Hf] Pl 0)) = fun i => y (cell i) := by
  funext i
  unfold half
  pointwise
  have h0 : (place 1 i 0).val = 64 + i.val % 64 := by show 64 * 1 + i.val % 64 = _; omega
  rw [dif_neg (by omega)]
  exact congrArg y (congrArg₂ ix2 (Fin.ext (by show (place 1 i 0).val - 64 = i.val % 64; omega)) (Fin.ext rfl))

/-- A weighted sum of three coordinate planes at an element. -/
theorem dot3_cell (a1 a2 a3 : EReal) (x y z : Vec Ideal Co .f32) (j : Hf.Idx) :
    dot3 (F := Ideal) a1 a2 a3 x y z j = x (ix4 0 0 (j 0) (j 1)) * a1 + y (ix4 0 0 (j 0) (j 1)) * a2 + z (ix4 0 0 (j 0) (j 1)) * a3 := by
  unfold dot3
  pointwise

/-- The distance of a chain, from the six coordinate planes of its projections. -/
theorem dist_projw (a1 a2 a3 : EReal) (x y z x' y' z' : Vec Ideal Co .f32) :
    dist (chain (projw (F := Ideal) a1 a2 a3 x y z x' y' z'))
      = gap (fun i => dot3 (F := Ideal) a1 a2 a3 x y z (cell i)) (fun i => dot3 (F := Ideal) a1 a2 a3 x' y' z' (cell i)) := by
  rw [dist_chain, half_cat_first, half_cat_second]

end Cert.Proof.Net

end
-- ==== Proof.Spec.lean ====
/-
  The value both programs compute, over the extended reals: the clouds' projections on a direction, the gap of the two
  clouds' projections, the weighted sum of the gaps, and the sums that regroup it.
-/
module

public import proofs.«01_k».proof.Proof.Halves

@[expose] public section

noncomputable section

namespace Cert.Proof.Net

open Idealize.ShloMosaic Idealize.ShloMosaic.SortNet

/-- The projection of point `i` of cloud `b` on direction `a`. -/
def pj (X : Fin 32 → N13 → Fin 3 → EReal) (D : Fin 100 → Fin 3 → EReal) (b : Fin 32) (a : Fin 100) (i : N13) : EReal :=
  X b i 0 * D a 0 + X b i 1 * D a 1 + X b i 2 * D a 2

/-- The gap of the two clouds `b` along direction `a`. -/
def gapAt (X Y : Fin 32 → N13 → Fin 3 → EReal) (D : Fin 100 → Fin 3 → EReal) (b : Fin 32) (a : Fin 100) : EReal :=
  gap (pj X D b a) (pj Y D b a)

/-- The weighted mean over the clouds of the mean gap. -/
def sliced (X Y : Fin 32 → N13 → Fin 3 → EReal) (D : Fin 100 → Fin 3 → EReal) (w : Fin 32 → EReal) : EReal :=
  Ideal.div (∑ b, w b * (∑ a, gapAt X Y D b a) * ((1 / 819200 : ℝ) : EReal)) (∑ b, w b)

/-- A factor goes into a sum of numbers none of which is negative. -/
theorem sum_mul_of_nonneg {ι : Type} (s : Finset ι) (f : ι → EReal) (hf : ∀ i, 0 ≤ f i) (k : EReal) :
    (∑ i ∈ s, f i) * k = ∑ i ∈ s, f i * k := by
  classical
  induction s using Finset.induction_on with
  | empty => simp
  | insert a s ha ih =>
    rw [Finset.sum_insert ha, Finset.sum_insert ha, EReal.right_distrib_of_nonneg (hf a) (Finset.sum_nonneg fun i _ => hf i), ih]

/-- So does a factor on the left. -/
theorem mul_sum_of_nonneg {ι : Type} (s : Finset ι) (f : ι → EReal) (hf : ∀ i, 0 ≤ f i) (k : EReal) :
    k * (∑ i ∈ s, f i) = ∑ i ∈ s, k * f i := by
  rw [mul_comm, sum_mul_of_nonneg s f hf]
  exact Finset.sum_congr rfl fun i _ => mul_comm _ _

/-- A sum over `p * q` numbers, `q` at a time. -/
theorem sum_blocks {p q n : ℕ} (h : p * q = n) (f : ℕ → EReal) :
    ∑ i : Fin n, f i.val = ∑ b : Fin p, ∑ k : Fin q, f (q * b.val + k.val) := by
  subst h
  rw [← Equiv.sum_comp finProdFinEquiv, Fintype.sum_prod_type]
  refine Finset.sum_congr rfl fun b _ => Finset.sum_congr rfl fun k _ => congrArg f ?_
  show k.val + q * b.val = _
  exact Nat.add_comm _ _

/-- The first power of a number is the number. -/
theorem pow_one (x : EReal) : Ideal.pow x 1 = x := by
  induction x using EReal.rec with
  | bot => rfl
  | top => show (if (0 : EReal) < 1 then ⊤ else _) = _; rw [if_pos zero_lt_one]
  | coe x => show ((Real.rpow x 1 : ℝ) : EReal) = x; exact congrArg _ (Real.rpow_one x)

end Cert.Proof.Net

end
-- ==== Proof.KValue.lean ====
/-
  The idealized kernel's accumulators over the extended reals.
-/
module

public import proofs.«01_k».proof.Proof.KRead
public import proofs.«01_k».proof.Proof.Spec

@[expose] public section

set_option maxRecDepth 16384

noncomputable section

namespace Cert.Proof.Value

open Cert.KernelIdeal Cert.KernelIdeal.Gen Cert.Proof.Net Cert.Proof.PI
open Idealize.ShloMosaic Idealize.ShloMosaic.TcCoe Idealize.ShloMosaic.StableHlo

/-! ## The places read -/

/-- A point's coordinates. -/
theorem coords0 (t : Fin cfg0.N) : (cfg0.grid.coords t 0).val = t.val / 10 := by
  have h : t.val < 320 := Nat.lt_of_lt_of_eq t.isLt N_0
  rw [Pipeline.Grid.coords_val t 0 (S := 10) (B := 32) (by decide) (by decide)]
  omega
/-- A point's inner coordinate. -/
theorem coords1 (t : Fin cfg0.N) : (cfg0.grid.coords t 1).val = t.val % 10 := by
  rw [Pipeline.Grid.coords_val t 1 (S := 1) (B := 10) (by decide) (by decide)]
  omega

/-- The column of the directions that projection `a` of a point reads. -/
def col (i : grid0.Coords) (a : Fin 10) : Fin 100 := ⟨10 * (i 1).val + a.val, by have : (i 1).val < 10 := (i 1).isLt; omega⟩

/-- The place of a direction's first coordinate. -/
theorem ra1_eq (i : grid0.Coords) (a : Fin 10) : ra1 i a = ix2 0 (col i a) := by
  funext b
  apply Fin.ext
  fin_cases b
  · show k0_off1 i (BitVec.ofNat 32 a.val) 0 + 1 * 0 = 0
    rw [k0_off1_eq]; rfl
  · show k0_off1 i (BitVec.ofNat 32 a.val) 1 + 1 * 0 = 10 * (i 1).val + a.val
    rw [k0_off1_eq]; rfl
/-- The place of its second coordinate. -/
theorem ra2_eq (i : grid0.Coords) (a : Fin 10) : ra2 i a = ix2 1 (col i a) := by
  funext b
  apply Fin.ext
  fin_cases b
  · show k0_off2 i (BitVec.ofNat 32 a.val) 0 + 1 * 0 = 1
    rw [k0_off2_eq]; rfl
  · show k0_off2 i (BitVec.ofNat 32 a.val) 1 + 1 * 0 = 10 * (i 1).val + a.val
    rw [k0_off2_eq]; rfl
/-- The place of its third coordinate. -/
theorem ra3_eq (i : grid0.Coords) (a : Fin 10) : ra3 i a = ix2 2 (col i a) := by
  funext b
  apply Fin.ext
  fin_cases b
  · show k0_off3 i (BitVec.ofNat 32 a.val) 0 + 1 * 0 = 2
    rw [k0_off3_eq]; rfl
  · show k0_off3 i (BitVec.ofNat 32 a.val) 1 + 1 * 0 = 10 * (i 1).val + a.val
    rw [k0_off3_eq]; rfl

/-- The place of a coordinate plane's element. -/
theorem rp_idx (k : Fin 3) (r : Fin 64) (l : Fin 128) : (rp k).toLoadRect.idx (ix4 0 0 r l) = ix4 0 k r l := by
  funext b
  apply Fin.ext
  fin_cases b
  · rfl
  · show k.val + 1 * 0 = k.val; omega
  · show 0 + 1 * r.val = r.val; omega
  · show 0 + 1 * l.val = l.val; omega

variable (m : (ℓ : Loc nD τ sig) → Buf (Elt Ideal) ℓ) (c : Dev nD)

/-! ## The data -/

/-- The clouds, the weights and the directions. -/
def X1 (b : Fin 32) (i : N13) (k : Fin 3) : EReal := (m ((c : Thread nD τ).loc main_arg0) : S32x8192x3.Idx → EReal) (ix3 b i k)
/-- The second cloud's points. -/
def X2 (b : Fin 32) (i : N13) (k : Fin 3) : EReal := (m ((c : Thread nD τ).loc main_arg1) : S32x8192x3.Idx → EReal) (ix3 b i k)
/-- The weights. -/
def Wg (b : Fin 32) : EReal := (m ((c : Thread nD τ).loc main_arg2) : S32.Idx → EReal) (ix1 b)
/-- The directions. -/
def Dr (a : Fin 100) (k : Fin 3) : EReal := dirs (F := Ideal) m c (ix4 0 0 a k)

/-- The cloud of a point. -/
def cloud (t : Fin cfg0.N) : Fin 32 := ⟨(grid0.coords t 0).val, (grid0.coords t 0).isLt⟩

/-- The weight a point reads is its cloud's. -/
theorem weight_eq (t : Fin cfg0.N) : wt (F := Ideal) (cfg0.grid.coords t) (iblk m c 1 t) = Wg m c (cloud t) := by
  rw [iblk_weights]
  unfold wt Wg
  congr 1
  funext b
  apply Fin.ext
  fin_cases b
  show k0_off4 (cfg0.grid.coords t) 0 + 1 * 0 = (grid0.coords t 0).val
  rw [k0_off4_eq]; rfl

/-- The first window's block holds the directions. -/
theorem block_dirs (t : Fin cfg0.N) (k : Fin 3) (a : Fin 100) : iblk (F := Ideal) m c 0 t (ix2 k a) = Dr m c a k := iblk_dirs m c t k a

/-- A number is put together again from its lane and row. -/
theorem back (i : N13) (h : i.val / 64 * 64 + i.val % 64 < 8192) : (⟨i.val / 64 * 64 + i.val % 64, h⟩ : Fin 8192) = i :=
  Fin.ext (by show i.val / 64 * 64 + i.val % 64 = i.val; omega)

/-- The third window's block, read plane by plane, holds the first cloud's points. -/
theorem block_first (t : Fin cfg0.N) (k : Fin 3) (i : N13) :
    iblk (F := Ideal) m c 2 t ((rp k).toLoadRect.idx (ix4 0 0 (cell i 0) (cell i 1))) = X1 m c (cloud t) i k := by
  refine (congrArg (iblk (F := Ideal) m c 2 t) (rp_idx k (cell i 0) (cell i 1))).trans ?_
  refine (iblk_first m c t k (cell i 0) (cell i 1)).trans ?_
  unfold X1
  exact congrArg (fun n => (m ((c : Thread nD τ).loc main_arg0) : S32x8192x3.Idx → EReal) (ix3 (cloud t) n k)) (back i _)
/-- The fourth window's block holds the second cloud's. -/
theorem block_second (t : Fin cfg0.N) (k : Fin 3) (i : N13) :
    iblk (F := Ideal) m c 3 t ((rp k).toLoadRect.idx (ix4 0 0 (cell i 0) (cell i 1))) = X2 m c (cloud t) i k := by
  refine (congrArg (iblk (F := Ideal) m c 3 t) (rp_idx k (cell i 0) (cell i 1))).trans ?_
  refine (iblk_second m c t k (cell i 0) (cell i 1)).trans ?_
  unfold X2
  exact congrArg (fun n => (m ((c : Thread nD τ).loc main_arg1) : S32x8192x3.Idx → EReal) (ix3 (cloud t) n k)) (back i _)

/-- The distance of a point's chain. -/
theorem dist_eq (t : Fin cfg0.N) (a : Fin 10) :
    dist (chain (proj (F := Ideal) m c t a)) = gapAt (X1 m c) (X2 m c) (Dr m c) (cloud t) (col (cfg0.grid.coords t) a) := by
  unfold proj projv gapAt
  refine (dist_projw _ _ _ _ _ _ _ _ _).trans (congrArg₂ gap (funext fun i => ?_) (funext fun i => ?_))
  · refine (dot3_cell _ _ _ _ _ _ _).trans ?_
    rw [ra1_eq, ra2_eq, ra3_eq, block_dirs, block_dirs, block_dirs, block_first, block_first, block_first]
    rfl
  · refine (dot3_cell _ _ _ _ _ _ _).trans ?_
    rw [ra1_eq, ra2_eq, ra3_eq, block_dirs, block_dirs, block_dirs, block_second, block_second, block_second]
    rfl

/-- The word of zero. -/
theorem word_zero : (Scalar.ofBits (F := Ideal) .f32 0x00000000#32 : EReal) = 0 := by
  show (FloatOps.ofBits (F := Ideal) .f32 0x00000000#32 : EReal) = 0
  rw [Ideal.ofBits_def]; simp [Ideal.ofBits, Ideal.ieee]

/-- The distances added up one by one are their sum. -/
theorem total_eq (W : Fin 10 → FVec Ideal Pl .f32) : total W = ∑ a : Fin 10, (dist (W a) : EReal) := by
  unfold total
  rw [word_zero]
  simp only [Fin.sum_univ_castSucc, Finset.univ_eq_empty, Finset.sum_empty]
  rfl

/-- The sum of a point's distances. -/
theorem tot_eq (t : Fin cfg0.N) :
    tot (F := Ideal) m c t = ∑ a : Fin 10, gapAt (X1 m c) (X2 m c) (Dr m c) (cloud t) (col (cfg0.grid.coords t) a) :=
  (total_eq _).trans (Finset.sum_congr rfl fun a _ => dist_eq m c t a)

/-- The named constant's value. -/
theorem kc_eq : kc (F := Ideal) = ((1 / 819200 : ℝ) : EReal) := by
  unfold kc
  exact IdealRules.named_const.ideal_named_scalar _ _ _ _ rfl

/-- The conditions, by a point's number. -/
theorem c1_iff (t : Fin cfg0.N) : c1 (cfg0.grid.coords t) ↔ t.val = 0 := by
  revert t; decide +kernel
/-- The weight is added at the first point of a cloud. -/
theorem c2_iff (t : Fin cfg0.N) : c2 (cfg0.grid.coords t) ↔ t.val % 10 = 0 := by
  revert t; decide +kernel

/-! ## The accumulators -/

/-- The number of the point of that number. -/
theorem pt_lt (n : ℕ) (h : n < 320) : (pt n).val = n := Nat.mod_eq_of_lt h

/-- What point `n` adds to the sum of weighted distances, and to the sum of the weights. -/
def addU (n : ℕ) : EReal := Wg m c (cloud (pt n)) * tot (F := Ideal) m c (pt n) * ((1 / 819200 : ℝ) : EReal)
/-- What point `n` adds to the sum of the weights. -/
def addV (n : ℕ) : EReal := if n % 10 = 0 then Wg m c (cloud (pt n)) else 0

/-- The first accumulator is the sum of what the points add. -/
theorem accs_first (n : ℕ) (h : n ≤ 320) : ((accs (F := Ideal) m c n).1 : EReal) = ∑ k ∈ Finset.range n, addU m c k := by
  induction n with
  | zero => rw [Finset.sum_range_zero]; exact word_zero
  | succ n ih =>
    rw [Finset.sum_range_succ, ← ih (by omega)]
    show accU (F := Ideal) (cfg0.grid.coords (pt n)) (iblk m c 1 (pt n)) (tot m c (pt n)) (accs m c n).1 = _
    unfold accU addU
    rw [weight_eq, kc_eq]
    have hu : (if c1 (cfg0.grid.coords (pt n)) then (Scalar.ofBits (F := Ideal) .f32 0x00000000#32 : EReal) else (accs (F := Ideal) m c n).1)
        = (accs (F := Ideal) m c n).1 := by
      by_cases h0 : n = 0
      · subst h0; rw [if_pos c1_zero]; rfl
      · rw [if_neg (fun e => h0 ((pt_lt n (by omega)).symm.trans ((c1_iff _).mp e)))]
    exact congrArg (fun u : EReal => u + Wg m c (cloud (pt n)) * tot (F := Ideal) m c (pt n) * ((1 / 819200 : ℝ) : EReal)) hu

/-- So is the second. -/
theorem accs_second (n : ℕ) (h : n ≤ 320) : ((accs (F := Ideal) m c n).2 : EReal) = ∑ k ∈ Finset.range n, addV m c k := by
  induction n with
  | zero => rw [Finset.sum_range_zero]; exact word_zero
  | succ n ih =>
    rw [Finset.sum_range_succ, ← ih (by omega)]
    show accV (F := Ideal) (cfg0.grid.coords (pt n)) (iblk m c 1 (pt n)) (accs m c n).2 = _
    have hu : (if c1 (cfg0.grid.coords (pt n)) then (Scalar.ofBits (F := Ideal) .f32 0x00000000#32 : EReal) else (accs (F := Ideal) m c n).2)
        = (accs (F := Ideal) m c n).2 := by
      by_cases h0 : n = 0
      · subst h0; rw [if_pos c1_zero]; rfl
      · rw [if_neg (fun e => h0 ((pt_lt n (by omega)).symm.trans ((c1_iff _).mp e)))]
    have hc : c2 (cfg0.grid.coords (pt n)) ↔ n % 10 = 0 := by
      have := c2_iff (pt n); rwa [pt_lt n (by omega)] at this
    unfold accV addV
    rw [weight_eq]
    by_cases h2 : n % 10 = 0
    · rw [if_pos (hc.mpr h2), if_pos h2]
      exact congrArg (fun u : EReal => u + Wg m c (cloud (pt n))) hu
    · rw [if_neg (fun e => h2 (hc.mp e)), if_neg h2, add_zero]
      exact hu

/-- The cloud of a point, by its place in the grid. -/
theorem cloud_block (b : Fin 32) (k : Fin 10) : cloud (pt (10 * b.val + k.val)) = b := by
  apply Fin.ext
  show (cfg0.grid.coords (pt (10 * b.val + k.val)) 0).val = b.val
  rw [coords0, pt_lt _ (by omega)]
  omega

/-- The directions of a point, by its place in the grid. -/
theorem col_block (b : Fin 32) (k a : Fin 10) : (col (cfg0.grid.coords (pt (10 * b.val + k.val))) a).val = 10 * k.val + a.val := by
  show 10 * (cfg0.grid.coords (pt (10 * b.val + k.val)) 1).val + a.val = _
  rw [coords1, pt_lt _ (by omega)]
  omega

/-- The sum of the weighted distances over all the points. -/
theorem sum_first : ((accs (F := Ideal) m c 320).1 : EReal)
    = ∑ b, Wg m c b * (∑ a, gapAt (X1 m c) (X2 m c) (Dr m c) b a) * ((1 / 819200 : ℝ) : EReal) := by
  rw [accs_first m c 320 le_rfl, Finset.sum_range, sum_blocks (p := 32) (q := 10) rfl]
  refine Finset.sum_congr rfl fun b _ => ?_
  unfold addU
  have hb : ∀ k : Fin 10, Wg m c (cloud (pt (10 * b.val + k.val))) * tot (F := Ideal) m c (pt (10 * b.val + k.val)) * ((1 / 819200 : ℝ) : EReal)
      = Wg m c b * ((∑ a : Fin 10, gapAt (X1 m c) (X2 m c) (Dr m c) b (col (cfg0.grid.coords (pt (10 * b.val + k.val))) a)) * ((1 / 819200 : ℝ) : EReal)) := by
    intro k
    rw [tot_eq, cloud_block, mul_assoc]
  have h0 : ∀ b a, 0 ≤ gapAt (X1 m c) (X2 m c) (Dr m c) b a := fun _ _ => gap_nonneg _ _
  have hk : (0 : EReal) ≤ ((1 / 819200 : ℝ) : EReal) := EReal.coe_nonneg.mpr (by norm_num)
  rw [Finset.sum_congr rfl fun k _ => hb k, ← mul_sum_of_nonneg _ _ (fun k => mul_nonneg (Finset.sum_nonneg fun a _ => h0 _ _) hk),
    ← sum_mul_of_nonneg _ _ (fun k => Finset.sum_nonneg fun a _ => h0 _ _), ← mul_assoc]
  refine congrArg (fun s : EReal => Wg m c b * s * ((1 / 819200 : ℝ) : EReal)) ?_
  have e := sum_blocks (p := 10) (q := 10) (n := 100) rfl (fun n : ℕ => gapAt (X1 m c) (X2 m c) (Dr m c) b ⟨n % 100, Nat.mod_lt _ (by decide)⟩)
  refine Eq.trans (Eq.trans ?_ e.symm) (Finset.sum_congr rfl fun a _ => congrArg (gapAt (X1 m c) (X2 m c) (Dr m c) b) (Fin.ext (Nat.mod_eq_of_lt a.isLt)))
  refine Finset.sum_congr rfl fun k _ => Finset.sum_congr rfl fun a _ => ?_
  refine congrArg _ (Fin.ext ?_)
  rw [col_block]
  exact (Nat.mod_eq_of_lt (by omega)).symm

/-- The sum of the weights over all the points. -/
theorem sum_second : ((accs (F := Ideal) m c 320).2 : EReal) = ∑ b, Wg m c b := by
  rw [accs_second m c 320 le_rfl, Finset.sum_range, sum_blocks (p := 32) (q := 10) rfl]
  refine Finset.sum_congr rfl fun b _ => ?_
  rw [Finset.sum_eq_single (0 : Fin 10)]
  · unfold addV
    rw [if_pos (by show (10 * b.val + 0) % 10 = 0; omega), cloud_block]
  · intro k _ hk
    unfold addV
    have : k.val ≠ 0 := fun e => hk (Fin.ext e)
    rw [if_neg (by omega)]
  · exact fun h => absurd (Finset.mem_univ _) h

/-- The quotient of the accumulators after the last point. -/
theorem quotient : (Scalar.divf (accs (F := Ideal) m c 320).1 (accs (F := Ideal) m c 320).2 : EReal)
    = sliced (X1 m c) (X2 m c) (Dr m c) (Wg m c) := by
  unfold sliced
  rw [← sum_first, ← sum_second]
  rfl

end Cert.Proof.Value

end
-- ==== Proof.RRead.lean ====
/-
  What the reference's operations after the directions make of the clouds, the weights and the directions.
-/
module

public import proofs.«01_k».proof.Proof.RI.Run
public import proofs.«01_k».proof.Proof.Spec
public import Idealize.ShloMosaic.Lib.Pointwise
public import Idealize.ShloMosaic.Lib.StableHlo.RunRead

@[expose] public section

set_option maxRecDepth 16384

noncomputable section

namespace Cert.Proof.Read

open Cert.ReferenceIdeal Cert.ReferenceIdeal.Gen Cert.Proof.Net Cert.Proof.RI
open Idealize.ShloMosaic Idealize.ShloMosaic.TcCoe Idealize.ShloMosaic.StableHlo Idealize.ShloMosaic.SortNet

section Any
variable {F : FTy → Type} [FloatOps F]

/-- A cloud's projections on the directions. -/
def projR (X : FVec F S32x8192x3 .f32) (D : FVec F S1x1x100x3 .f32) : FVec F S32x8192x100 .f32 :=
  Host.reduceAdd (mulf (broadcastInDim S32x8192x100x3 ![0, 1, 2, 3] bcast_S32x8192x1x3_S32x8192x100x3_0_1_2_3
      (broadcastInDim S32x8192x1x3 ![0, 1, 3] bcast_S32x8192x3_S32x8192x1x3_0_1_3 X))
    (broadcastInDim S32x8192x100x3 ![0, 1, 2, 3] bcast_S1x1x100x3_S32x8192x100x3_0_1_2_3 D))
    (constant S_ .f32 0x00000000#32) reducesTo_S32x8192x100x3_S32x8192x100_d3 h_S_

/-- The mean absolute difference of the sorted projections, for every cloud and direction. -/
def meanR (P Q : FVec F S32x8192x100 .f32) : FVec F S32x100 .f32 :=
  Host.divf (Host.reduceAdd (Host.absf (subf (Host.sort S32x8192x100 1 comparator_f32_d1 P) (Host.sort S32x8192x100 1 comparator_f32_d1 Q)))
    (constant S_ .f32 0x00000000#32) reducesTo_S32x8192x100_S32x100_d1 h_S_) (broadcastInDim S32x100 ![] bcast_S_S32x100 (constant S_ .f32 0x46000000#32))

/-- The weighted mean over the clouds of the mean over the directions. -/
def outR (M : FVec F S32x100 .f32) (w : FVec F S32 .f32) : FVec F S_ .f32 :=
  Host.divf (Host.reduceAdd (mulf (Host.divf (Host.reduceAdd (Host.powf M (broadcastInDim S32x100 ![] bcast_S_S32x100 (constant S_ .f32 0x3F800000#32)))
      (constant S_ .f32 0x00000000#32) reducesTo_S32x100_S32_d1 h_S_) (broadcastInDim S32 ![] bcast_S_S32 (constant S_ .f32 0x42C80000#32))) w)
    (constant S_ .f32 0x00000000#32) reducesTo_S32_S_d0 h_S_) (Host.reduceAdd w (constant S_ .f32 0x00000000#32) reducesTo_S32_S_d0 h_S_)

/-- The reference's result, from what the operations that make the directions leave. -/
theorem rest_read (d : Dev nD) (W : Valuation τ sig (Elt F)) :
    after (parts d).rest W (Proc.devRef .tc main_v40)
      = outR (meanR (projR (W (Proc.devRef .tc main_arg0)) (W (Proc.devRef .tc main_v14)))
          (projR (W (Proc.devRef .tc main_arg1)) (W (Proc.devRef .tc main_v14)))) (W (Proc.devRef .tc main_arg2)) := by
  unfold parts sort₁ sort₂
  after_reads_simp
  rfl
end Any

/-! ## Over the extended reals -/

/-- The host's comparator is the order of the extended reals. -/
theorem comparator_lt (a b : EReal) : comparator_f32_d1 (F := Ideal) a b = 1#1 ↔ a < b := by
  have h0 : (FloatOps.ofBits (F := Ideal) .f32 0x00000000#32 : EReal) = 0 := by
    rw [Ideal.ofBits_def]; simp [Ideal.ofBits, Ideal.ieee]
  have hs : ∀ x : EReal, Scalar.select (FloatOps.cmpf (F := Ideal) (φ := .f32) .une x x) (FloatOps.ofBits (F := Ideal) .f32 0x7FC00000#32 : EReal)
      (Scalar.select (FloatOps.cmpf (F := Ideal) (φ := .f32) .oeq x (FloatOps.ofBits (F := Ideal) .f32 0x00000000#32 : EReal))
        (FloatOps.ofBits (F := Ideal) .f32 0x00000000#32 : EReal) x) = x := by
    intro x
    rw [h0]
    by_cases hx : x = 0 <;> simp [Ideal.cmpf_def, Ideal.cmp, Scalar.select, hx]
  unfold comparator_f32_d1
  dsimp only
  rw [hs, hs]
  rw [Ideal.cmpfTotal_def]
  by_cases h : a < b <;> simp [Ideal.cmp, CmpDirection.ordered, h]

/-- The host's sort along the points is the network's arrangement. -/
theorem sort_line (x : FVec Ideal S32x8192x100 .f32) (b : Fin 32) (i : Fin 8192) (a : Fin 100) :
    Host.sort S32x8192x100 1 (comparator_f32_d1 (F := Ideal)) x (ix3 b i a)
      = Network.apply (sortNet 13 false) (fun k : N13 => (x (ix3 b k a) : EReal)) i := by
  have hd : 1 < S32x8192x100.rank := by decide
  have ha : ∀ k, (ix3 b i a : S32x8192x100.Idx).along ⟨1, hd⟩ k = ix3 b k a := by
    intro k
    funext c
    fin_cases c <;> rfl
  unfold Host.sort
  rw [dif_pos hd]
  dsimp only
  simp only [ha]
  exact sort_eq (fun k : N13 => (x (ix3 b k a) : EReal)) (comparator_f32_d1 (F := Ideal)) comparator_lt i

/-- The projections. -/
theorem projR_apply (X : FVec Ideal S32x8192x3 .f32) (D : FVec Ideal S1x1x100x3 .f32) (b : Fin 32) (i : Fin 8192) (a : Fin 100) :
    projR X D (ix3 b i a) = pj (fun b i k => (X (ix3 b i k) : EReal)) (fun a k => (D (ix4 0 0 a k) : EReal)) b a i := by
  unfold projR pj
  pointwise
  rw [Fin.sum_univ_three]

/-- The mean absolute difference of the sorted projections. -/
theorem meanR_apply (P Q : FVec Ideal S32x8192x100 .f32) (b : Fin 32) (a : Fin 100) :
    meanR P Q (ix2 b a) = gap (fun k => (P (ix3 b k a) : EReal)) (fun k => (Q (ix3 b k a) : EReal)) * ((1 / 8192 : ℝ) : EReal) := by
  unfold meanR
  pointwise
  simp only [sort_line]
  rw [show (Ideal.ofBits .f32 0x46000000#32 : EReal) = ((8192 : ℝ) : EReal) from by
    simp [Ideal.ofBits, Ideal.ieee, -EReal.coe_mul]; norm_num, Ideal.div_coe (by norm_num : (8192 : ℝ) ≠ 0)]
  rfl

/-- The weighted mean of the means. -/
theorem outR_apply (M : FVec Ideal S32x100 .f32) (w : FVec Ideal S32 .f32) (j) :
    outR M w j = Ideal.div (∑ b : Fin 32, ((∑ a : Fin 100, (M (ix2 b a) : EReal)) * ((1 / 100 : ℝ) : EReal)) * (w (ix1 b) : EReal)) (∑ b : Fin 32, (w (ix1 b) : EReal)) := by
  unfold outR
  pointwise
  rw [show (Ideal.ofBits .f32 0x42C80000#32 : EReal) = ((100 : ℝ) : EReal) from by
    simp [Ideal.ofBits, Ideal.ieee, -EReal.coe_mul]; norm_num]
  simp only [pow_one, Ideal.div_coe (by norm_num : (100 : ℝ) ≠ 0)]

/-- The reference's value. -/
theorem outR_eq (X Y : FVec Ideal S32x8192x3 .f32) (D : FVec Ideal S1x1x100x3 .f32) (w : FVec Ideal S32 .f32) (j) :
    outR (meanR (projR X D) (projR Y D)) w j = sliced (fun b i k => (X (ix3 b i k) : EReal)) (fun b i k => (Y (ix3 b i k) : EReal))
      (fun a k => (D (ix4 0 0 a k) : EReal)) (fun b => (w (ix1 b) : EReal)) := by
  rw [outR_apply]
  unfold sliced
  refine congrArg (Ideal.div · _) (Finset.sum_congr rfl fun b _ => ?_)
  have hm : ∀ a : Fin 100, (meanR (projR X D) (projR Y D) (ix2 b a) : EReal)
      = gapAt (fun b i k => (X (ix3 b i k) : EReal)) (fun b i k => (Y (ix3 b i k) : EReal)) (fun a k => (D (ix4 0 0 a k) : EReal)) b a
        * ((1 / 8192 : ℝ) : EReal) := by
    intro a
    have hX : (fun k : N13 => (projR X D (ix3 b k a) : EReal)) = pj (fun b i k => (X (ix3 b i k) : EReal)) (fun a k => (D (ix4 0 0 a k) : EReal)) b a :=
      funext fun k => projR_apply X D b k a
    have hY : (fun k : N13 => (projR Y D (ix3 b k a) : EReal)) = pj (fun b i k => (Y (ix3 b i k) : EReal)) (fun a k => (D (ix4 0 0 a k) : EReal)) b a :=
      funext fun k => projR_apply Y D b k a
    unfold gapAt
    rw [← hX, ← hY]
    exact meanR_apply _ _ b a
  refine (congrArg (fun e : EReal => e * ((1 / 100 : ℝ) : EReal) * (w (ix1 b) : EReal)) ((Finset.sum_congr rfl fun a _ => hm a).trans
    (sum_mul_of_nonneg _ _ (fun a => gap_nonneg _ _) _).symm)).trans ?_
  dsimp only
  rw [mul_comm, mul_assoc, ← EReal.coe_mul, show (1 / 8192 * (1 / 100) : ℝ) = 1 / 819200 from by norm_num, mul_assoc]
  rfl

end Cert.Proof.Read

end
-- ==== Proof.Algebraic.lean ====
/-
  The idealized kernel and the idealized reference leave the same value over the extended reals.
-/
module

public import proofs.«01_k».proof.Defs
public import proofs.«01_k».proof.Proof.KFinal
public import proofs.«01_k».proof.Proof.KValue
public import proofs.«01_k».proof.Proof.RRead

@[expose] public section

set_option maxRecDepth 16384

noncomputable section

namespace Cert.Proof

open Idealize.ShloMosaic Idealize.ShloMosaic.TcCoe Idealize.ShloMosaic.StableHlo Idealize.SL.Sem
open Cert.Proof.Net Cert.Proof.Angles

section Directions
variable {F : FTy → Type} [FloatOps F] [Named F]

/-- The reference's operations that make the directions are the ones matched against the kernel's. -/
theorem parts_angles (d : Dev Cert.ReferenceIdeal.nD) : (RI.parts (F := F) d).angles = anglesR := rfl

/-- Before any operation there is nothing to agree on. -/
theorem agree_start {Val : EltTy → Type} {τ τ' : Topo} {K R : RefSig} (V : Valuation τ K Val) (W : Valuation τ' R Val) : Lock.Agree 3 V W :=
  fun _ _ _ _ _ h h' => absurd h' (Nat.not_lt.mpr h)

variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)

/-- What the reference's operations that make the directions leave. -/
def afterR (d : Dev Cert.ReferenceIdeal.nD) : Valuation Cert.ReferenceIdeal.τ Cert.ReferenceIdeal.sig (Elt F) :=
  after (RI.parts d).angles (launchContents m' d)

/-- The two programs make the same directions. -/
theorem dirs_eq (c : Dev Cert.KernelIdeal.nD) (d : Dev Cert.ReferenceIdeal.nD) :
    Value.dirs m c = (afterR m' d (Proc.devRef .tc Cert.ReferenceIdeal.main_v14) : Cert.KernelIdeal.S1x1x100x3.Idx → F .f32) := by
  have h := lock (F := F) (fun b => m (c, b)) (launchContents m' d) (agree_start _ _)
  exact eq_of_heq (h.at ⟨rfl, rfl, by decide, by decide, rfl⟩ (by decide))

/-- They leave the reference's arguments alone. -/
theorem afterR_arg (d : Dev Cert.ReferenceIdeal.nD) (r : Ref Cert.ReferenceIdeal.sig .tc) (hr : r.idx.val < 3) :
    afterR m' d (Proc.devRef .tc r) = m' ((d.tc : Thread Cert.ReferenceIdeal.nD Cert.ReferenceIdeal.τ).loc r) :=
  after_of_forall_not_mem _ _ fun op h => ((RI.whole d).2.good op (List.mem_append_left _ h)).2.2 r hr

/-- The reference's result. -/
theorem ref_out (d : Dev Cert.ReferenceIdeal.nD) :
    after (RI.whole d).1 (launchContents m' d) (Proc.devRef .tc Cert.ReferenceIdeal.main_v40)
      = Read.outR (Read.meanR (Read.projR (m' ((d.tc : Thread _ _).loc Cert.ReferenceIdeal.main_arg0)) (afterR m' d (Proc.devRef .tc Cert.ReferenceIdeal.main_v14)))
          (Read.projR (m' ((d.tc : Thread _ _).loc Cert.ReferenceIdeal.main_arg1)) (afterR m' d (Proc.devRef .tc Cert.ReferenceIdeal.main_v14))))
          (m' ((d.tc : Thread _ _).loc Cert.ReferenceIdeal.main_arg2)) := by
  rw [← afterR_arg m' d _ (by decide), ← afterR_arg m' d _ (by decide), ← afterR_arg m' d Cert.ReferenceIdeal.main_arg2 (by decide)]
  show after ((RI.parts d).angles ++ (RI.parts d).rest) _ _ = _
  rw [Lock.after_app]
  exact Read.rest_read d _

end Directions

/-- Both programs leave the weighted mean of the mean gaps. -/
theorem algebraic : Cert.algebraic_KernelIdeal_ReferenceIdeal := by
  intro m g m' g' _ hargs
  refine ⟨fun c => (fun _ => (sliced (Value.X1 m c) (Value.X2 m c) (Value.Dr m c) (Value.Wg m c) : EReal) : Cert.KernelIdeal.S_.Idx → EReal), ?_, ?_⟩
  · refine (θ_run Cert.KernelIdeal.defs _ _).mono (fun r h c => ⟨(h c).1.trans (funext fun _ => Value.quotient m c), (h c).2⟩) (Value.run m g)
  · refine (θ_run Cert.ReferenceIdeal.defs _ _).mono (fun r h c => ⟨(h c _).trans ?_,
       (h c _).trans (RI.after_arg c _ Cert.ReferenceIdeal.main_arg0 (by decide)),
       (h c _).trans (RI.after_arg c _ Cert.ReferenceIdeal.main_arg1 (by decide)),
       (h c _).trans (RI.after_arg c _ Cert.ReferenceIdeal.main_arg2 (by decide))⟩) (RI.run_main m' g')
    rw [ref_out]
    obtain ⟨h0, h1, h2⟩ := hargs c
    have hd := dirs_eq (F := Ideal) m m' c c
    funext j
    refine (Read.outR_eq _ _ _ _ j).trans ?_
    rw [h0, h1, h2]
    unfold Value.X1 Value.X2 Value.Dr Value.Wg
    dsimp only
    rw [hd]

end Cert.Proof

end
-- ==== Proof.lean ====
/-
  The certificate of the sliced Wasserstein kernel.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

/-- The claim. -/
theorem claim : Cert.Claim := ⟨Cert.Kernel.Gen.facts, Cert.KernelIdeal.Gen.facts, Cert.ReferenceIdeal.Gen.facts,
  frame_p, frame_pi, frame_ri, preserves, algebraic⟩

end Cert.Proof

end
